-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_maxima [hPre_finite_row_maxima : Cert.Pre_finite_row_maxima.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_maxima.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_maxima [hPre_finite_row_maxima : Cert.Pre_finite_row_maxima.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_maxima.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_row_maxima [hKernelIdeal : Cert.KernelIdeal.Facts] [hPre_finite_row_maxima : Cert.Pre_finite_row_maxima.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_maxima m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_row_maxima [hReferenceIdeal : Cert.ReferenceIdeal.Facts] [hPre_finite_row_maxima : Cert.Pre_finite_row_maxima.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_maxima m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_row_maxima [hKernelIdeal : Cert.KernelIdeal.Facts] [hReferenceIdeal : Cert.ReferenceIdeal.Facts] [hPre_finite_row_maxima : Cert.Pre_finite_row_maxima.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_maxima m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_row_maxima : Cert.Pre_finite_row_maxima.Facts),
    quiescent_Kernel (hKernel := hKernel)
    ∧ quiescent_KernelIdeal (hKernelIdeal := hKernelIdeal)
    ∧ quiescent_KernelIdeal_pre_finite_row_maxima (hKernelIdeal := hKernelIdeal) (hPre_finite_row_maxima := hPre_finite_row_maxima)
    ∧ quiescent_ReferenceIdeal (hReferenceIdeal := hReferenceIdeal)
    ∧ quiescent_ReferenceIdeal_pre_finite_row_maxima (hReferenceIdeal := hReferenceIdeal) (hPre_finite_row_maxima := hPre_finite_row_maxima)
    ∧ preserves_Kernel_KernelIdeal
    ∧ algebraic_KernelIdeal_ReferenceIdeal_pre_finite_row_maxima (hKernelIdeal := hKernelIdeal) (hReferenceIdeal := hReferenceIdeal) (hPre_finite_row_maxima := hPre_finite_row_maxima)
-- ==== Pre_finite_row_maxima.lean ====
abbrev S4x4096x2048 : Shape := ⟨3, ![4, 4096, 2048]⟩
abbrev S2048x2048 : Shape := ⟨2, ![2048, 2048]⟩
abbrev S16x4 : Shape := ⟨2, ![16, 4]⟩
abbrev S4x16x128x128 : Shape := ⟨4, ![4, 16, 128, 128]⟩
abbrev S4x16x128 : Shape := ⟨3, ![4, 16, 128]⟩
abbrev S_ : Shape := ⟨0, ![]⟩
abbrev S16 : Shape := ⟨1, ![16]⟩

class Facts : Prop where
  reducesTo_S16x4_S16_d1 : S16x4.ReducesTo [1] S16
  h_S_ : 0 < S_.numel
  bcast_S_S16 : S_.BroadcastsInDim S16 (![] : Fin 0 → Fin S16.rank)

variable [Facts]

def fn {F : FTy → Type} [FloatOps F] (main_arg0 : FVec F S4x4096x2048 .f32) (main_arg1 : FVec F S2048x2048 .f32) (main_arg2 : FVec F S2048x2048 .f32) (main_arg3 : FVec F S2048x2048 .f32) (main_arg4 : FVec F S2048x2048 .f32) (main_arg5 : FVec F S16x4 .f32) (main_arg6 : FVec F S4x16x128x128 .f32) (main_arg7 : FVec F S4x16x128 .f32) : IVec S16 1 :=
  let main_cst : FVec F S_ .f32 := constant S_ .f32 0xFF800000#32
  let main_v0 : FVec F S16 .f32 := (fun x v => Host.reduce FloatOps.maximumf x v reducesTo_S16x4_S16_d1 h_S_) main_arg5 main_cst
  let main_v1 : FVec F S16 .f32 := Host.absf main_v0
  let main_cst_0 : FVec F S_ .f32 := constant S_ .f32 0x7F800000#32
  let main_v2 : FVec F S16 .f32 := broadcastInDim S16 ![] bcast_S_S16 main_cst_0
  let main_v3 : IVec S16 1 := cmpf .olt main_v1 main_v2
  main_v3
-- ==== Kernel.lean ====
abbrev S4x4096x2048 : Shape := ⟨3, ![4, 4096, 2048]⟩
abbrev S2048x2048 : Shape := ⟨2, ![2048, 2048]⟩
abbrev S16x4 : Shape := ⟨2, ![16, 4]⟩
abbrev S4x16x128x128 : Shape := ⟨4, ![4, 16, 128, 128]⟩
abbrev S4x16x128 : Shape := ⟨3, ![4, 16, 128]⟩
abbrev S16384x2048 : Shape := ⟨2, ![16384, 2048]⟩
abbrev S1x2048x2048 : Shape := ⟨3, ![1, 2048, 2048]⟩
abbrev S3x2048x2048 : Shape := ⟨3, ![3, 2048, 2048]⟩
abbrev S_ : Shape := ⟨0, ![]⟩
abbrev S16 : Shape := ⟨1, ![16]⟩
abbrev S16x1 : Shape := ⟨2, ![16, 1]⟩
abbrev S4 : Shape := ⟨1, ![4]⟩
abbrev S1x4 : Shape := ⟨2, ![1, 4]⟩
abbrev S4x16 : Shape := ⟨2, ![4, 16]⟩
abbrev S4x16x1x1 : Shape := ⟨4, ![4, 16, 1, 1]⟩
abbrev S16x128x4x128 : Shape := ⟨4, ![16, 128, 4, 128]⟩
abbrev S16x128x512 : Shape := ⟨3, ![16, 128, 512]⟩
abbrev S1x16x128x128 : Shape := ⟨4, ![1, 16, 128, 128]⟩
abbrev S16x128x128 : Shape := ⟨3, ![16, 128, 128]⟩
abbrev S16x16 : Shape := ⟨2, ![16, 16]⟩
abbrev S16x1x16x1 : Shape := ⟨4, ![16, 1, 16, 1]⟩
abbrev S16x128x4 : Shape := ⟨3, ![16, 128, 4]⟩
abbrev S16x128x1x4 : Shape := ⟨4, ![16, 128, 1, 4]⟩
abbrev S16x128x16x4 : Shape := ⟨4, ![16, 128, 16, 4]⟩
abbrev S2048x64 : Shape := ⟨2, ![2048, 64]⟩
abbrev S16x1x16 : Shape := ⟨3, ![16, 1, 16]⟩
abbrev S1x16x128 : Shape := ⟨3, ![1, 16, 128]⟩
abbrev S16x128 : Shape := ⟨2, ![16, 128]⟩
abbrev S16x128x1 : Shape := ⟨3, ![16, 128, 1]⟩
abbrev S16x128x16 : Shape := ⟨3, ![16, 128, 16]⟩
abbrev S2048x16 : Shape := ⟨2, ![2048, 16]⟩
abbrev S4x4 : Shape := ⟨2, ![4, 4]⟩
abbrev S4x1x4x1x1 : Shape := ⟨5, ![4, 1, 4, 1, 1]⟩
abbrev S1x16x1x16x1 : Shape := ⟨5, ![1, 16, 1, 16, 1]⟩
abbrev S4x16x4x16x1 : Shape := ⟨5, ![4, 16, 4, 16, 1]⟩
abbrev S4x16x4x16x128 : Shape := ⟨5, ![4, 16, 4, 16, 128]⟩
abbrev S4x64x2048 : Shape := ⟨3, ![4, 64, 2048]⟩
abbrev S16x16x1 : Shape := ⟨3, ![16, 16, 1]⟩
abbrev S16x16x128 : Shape := ⟨3, ![16, 16, 128]⟩
abbrev S16x2048 : Shape := ⟨2, ![16, 2048]⟩
abbrev S2x16x128x128 : Shape := ⟨4, ![2, 16, 128, 128]⟩
abbrev S2x1x2048 : Shape := ⟨3, ![2, 1, 2048]⟩
abbrev S256x2048 : Shape := ⟨2, ![256, 2048]⟩
abbrev S1x1x2048 : Shape := ⟨3, ![1, 1, 2048]⟩
abbrev S256x64 : Shape := ⟨2, ![256, 64]⟩
abbrev S1x64x2048 : Shape := ⟨3, ![1, 64, 2048]⟩
abbrev S64x2048 : Shape := ⟨2, ![64, 2048]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S256x16 : Shape := ⟨2, ![256, 16]⟩
abbrev S1x128x128 : Shape := ⟨3, ![1, 128, 128]⟩
abbrev S128x128 : Shape := ⟨2, ![128, 128]⟩
abbrev S2048 : Shape := ⟨1, ![2048]⟩
abbrev S1x1x128x128 : Shape := ⟨4, ![1, 1, 128, 128]⟩
abbrev S1024x2048 : Shape := ⟨2, ![1024, 2048]⟩
abbrev S1x2048 : Shape := ⟨2, ![1, 2048]⟩

abbrev nBuf : Space → Nat
  | .hbm => 117
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S16x4, .f32⟩
  | .hbm, ⟨6, _⟩ => ⟨S4x16x128x128, .f32⟩
  | .hbm, ⟨7, _⟩ => ⟨S4x16x128, .f32⟩
  | .hbm, ⟨8, _⟩ => ⟨S16384x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S3x2048x2048, .f32⟩
  | .hbm, ⟨16, _⟩ => ⟨S3x2048x2048, .bf16⟩
  | .hbm, ⟨17, _⟩ => ⟨S2048x2048, .f32⟩
  | .hbm, ⟨18, _⟩ => ⟨S2048x2048, .bf16⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16x1, .f32⟩
  | .hbm, ⟨25, _⟩ => ⟨S16x4, .f32⟩
  | .hbm, ⟨26, _⟩ => ⟨S16x4, .f32⟩
  | .hbm, ⟨27, _⟩ => ⟨S16x4, .f32⟩
  | .hbm, ⟨28, _⟩ => ⟨S_, .f32⟩
  | .hbm, ⟨29, _⟩ => ⟨S16, .f32⟩
  | .hbm, ⟨30, _⟩ => ⟨S16x1, .f32⟩
  | .hbm, ⟨31, _⟩ => ⟨S16x4, .f32⟩
  | .hbm, ⟨32, _⟩ => ⟨S16x4, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .i1⟩
  | .hbm, ⟨38, _⟩ => ⟨S4, .f32⟩
  | .hbm, ⟨39, _⟩ => ⟨S1x4, .f32⟩
  | .hbm, ⟨40, _⟩ => ⟨S16x4, .f32⟩
  | .hbm, ⟨41, _⟩ => ⟨S16x4, .f32⟩
  | .hbm, ⟨42, _⟩ => ⟨S4x16, .f32⟩
  | .hbm, ⟨43, _⟩ => ⟨S4x16x1x1, .f32⟩
  | .hbm, ⟨44, _⟩ => ⟨S4x16x128x128, .f32⟩
  | .hbm, ⟨45, _⟩ => ⟨S4x16x128x128, .f32⟩
  | .hbm, ⟨46, _⟩ => ⟨S16x128x4x128, .f32⟩
  | .hbm, ⟨47, _⟩ => ⟨S16x128x512, .f32⟩
  | .hbm, ⟨48, _⟩ => ⟨S16x128x512, .bf16⟩
  | .hbm, ⟨49, _⟩ => ⟨S1x16x128x128, .f32⟩
  | .hbm, ⟨50, _⟩ => ⟨S16x128x128, .f32⟩
  | .hbm, ⟨51, _⟩ => ⟨S16x128x128, .bf16⟩
  | .hbm, ⟨52, _⟩ => ⟨S16x16, .i32⟩
  | .hbm, ⟨53, _⟩ => ⟨S16x16, .i32⟩
  | .hbm, ⟨54, _⟩ => ⟨S_, .i32⟩
  | .hbm, ⟨55, _⟩ => ⟨S16x16, .i32⟩
  | .hbm, ⟨56, _⟩ => ⟨S16x16, .i32⟩
  | .hbm, ⟨57, _⟩ => ⟨S16x16, .i1⟩
  | .hbm, ⟨58, _⟩ => ⟨S16x16, .f32⟩
  | .hbm, ⟨59, _⟩ => ⟨S16x1x16x1, .f32⟩
  | .hbm, ⟨60, _⟩ => ⟨S16x128x4, .f32⟩
  | .hbm, ⟨61, _⟩ => ⟨S16x128x1x4, .f32⟩
  | .hbm, ⟨62, _⟩ => ⟨S16x128x16x4, .f32⟩
  | .hbm, ⟨63, _⟩ => ⟨S16x128x16x4, .f32⟩
  | .hbm, ⟨64, _⟩ => ⟨S16x128x16x4, .f32⟩
  | .hbm, ⟨65, _⟩ => ⟨S2048x64, .f32⟩
  | .hbm, ⟨66, _⟩ => ⟨S2048x64, .bf16⟩
  | .hbm, ⟨67, _⟩ => ⟨S16x1x16, .f32⟩
  | .hbm, ⟨68, _⟩ => ⟨S1x16x128, .f32⟩
  | .hbm, ⟨69, _⟩ => ⟨S16x128, .f32⟩
  | .hbm, ⟨70, _⟩ => ⟨S16x128x1, .f32⟩
  | .hbm, ⟨71, _⟩ => ⟨S16x128x16, .f32⟩
  | .hbm, ⟨72, _⟩ => ⟨S16x128x16, .f32⟩
  | .hbm, ⟨73, _⟩ => ⟨S16x128x16, .f32⟩
  | .hbm, ⟨74, _⟩ => ⟨S2048x16, .f32⟩
  | .hbm, ⟨75, _⟩ => ⟨S2048x16, .bf16⟩
  | .hbm, ⟨76, _⟩ => ⟨S4x4, .i32⟩
  | .hbm, ⟨77, _⟩ => ⟨S4x4, .i32⟩
  | .hbm, ⟨78, _⟩ => ⟨S_, .i32⟩
  | .hbm, ⟨79, _⟩ => ⟨S4x4, .i32⟩
  | .hbm, ⟨80, _⟩ => ⟨S4x4, .i32⟩
  | .hbm, ⟨81, _⟩ => ⟨S4x4, .i1⟩
  | .hbm, ⟨82, _⟩ => ⟨S4x4, .f32⟩
  | .hbm, ⟨83, _⟩ => ⟨S4x1x4x1x1, .f32⟩
  | .hbm, ⟨84, _⟩ => ⟨S1x16x1x16x1, .f32⟩
  | .hbm, ⟨85, _⟩ => ⟨S4x16x4x16x1, .f32⟩
  | .hbm, ⟨86, _⟩ => ⟨S4x16x4x16x1, .f32⟩
  | .hbm, ⟨87, _⟩ => ⟨S4x16x4x16x1, .f32⟩
  | .hbm, ⟨88, _⟩ => ⟨S4x16x4x16x128, .f32⟩
  | .hbm, ⟨89, _⟩ => ⟨S4x64x2048, .f32⟩
  | .hbm, ⟨90, _⟩ => ⟨S4x64x2048, .bf16⟩
  | .hbm, ⟨91, _⟩ => ⟨S16x16x1, .f32⟩
  | .hbm, ⟨92, _⟩ => ⟨S16x16x128, .f32⟩
  | .hbm, ⟨93, _⟩ => ⟨S16x2048, .f32⟩
  | .hbm, ⟨94, _⟩ => ⟨S16x2048, .bf16⟩
  | .hbm, ⟨95, _⟩ => ⟨S16384x2048, .bf16⟩
  | .hbm, ⟨96, _⟩ => ⟨S2x16x128x128, .f32⟩
  | .hbm, ⟨97, _⟩ => ⟨S2x1x2048, .f32⟩
  | .hbm, ⟨98, _⟩ => ⟨S16384x2048, .f32⟩
  | .hbm, ⟨99, _⟩ => ⟨S4x4096x2048, .f32⟩
  | .hbm, ⟨100, _⟩ => ⟨S1x16x128x128, .f32⟩
  | .hbm, ⟨101, _⟩ => ⟨S16x128x128, .f32⟩
  | .hbm, ⟨102, _⟩ => ⟨S_, .f32⟩
  | .hbm, ⟨103, _⟩ => ⟨S16x128x128, .f32⟩
  | .hbm, ⟨104, _⟩ => ⟨S_, .f32⟩
  | .hbm, ⟨105, _⟩ => ⟨S16x128x128, .f32⟩
  | .hbm, ⟨106, _⟩ => ⟨S16x128x128, .f32⟩
  | .hbm, ⟨107, _⟩ => ⟨S16x128x128, .f32⟩
  | .hbm, ⟨108, _⟩ => ⟨S1x16x128, .f32⟩
  | .hbm, ⟨109, _⟩ => ⟨S16x128, .f32⟩
  | .hbm, ⟨110, _⟩ => ⟨S_, .f32⟩
  | .hbm, ⟨111, _⟩ => ⟨S1x2048, .f32⟩
  | .hbm, ⟨112, _⟩ => ⟨S16x128, .f32⟩
  | .hbm, ⟨113, _⟩ => ⟨S_, .f32⟩
  | .hbm, ⟨114, _⟩ => ⟨S16x128, .f32⟩
  | .hbm, ⟨115, _⟩ => ⟨S16x128, .f32⟩
  | .hbm, ⟨116, _⟩ => ⟨S16x128, .f32⟩
  | .local _ .vmem, ⟨0, _⟩ => ⟨S256x2048, .f32⟩
  | .local _ .vmem, ⟨1, _⟩ => ⟨S256x2048, .f32⟩
  | .local _ .vmem, ⟨2, _⟩ => ⟨S16x128x512, .bf16⟩
  | .local _ .vmem, ⟨3, _⟩ => ⟨S16x128x128, .bf16⟩
  | .local _ .vmem, ⟨4, _⟩ => ⟨S2048x64, .bf16⟩
  | .local _ .vmem, ⟨5, _⟩ => ⟨S2048x16, .bf16⟩
  | .local _ .vmem, ⟨6, _⟩ => ⟨S4x64x2048, .bf16⟩
  | .local _ .vmem, ⟨7, _⟩ => ⟨S16x2048, .bf16⟩
  | .local _ .vmem, ⟨8, _⟩ => ⟨S256x2048, .bf16⟩
  | .local _ .vmem, ⟨9, _⟩ => ⟨S256x2048, .bf16⟩
  | .local _ .vmem, ⟨10, _⟩ => ⟨S1x16x128x128, .f32⟩
  | .local _ .vmem, ⟨11, _⟩ => ⟨S1x16x128x128, .f32⟩
  | .local _ .vmem, ⟨12, _⟩ => ⟨S1x1x2048, .f32⟩
  | .local _ .vmem, ⟨13, _⟩ => ⟨S1x1x2048, .f32⟩
  | .local _ .vmem, ⟨14, _⟩ => ⟨S3x2048x2048, .bf16⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1024x2048, .f32⟩
  | .local _ .vmem, ⟨19, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80_0 : Ref sig .tc := ⟨.hbm, 95, rfl⟩
abbrev main_v80_1 : Ref sig .tc := ⟨.hbm, 96, rfl⟩
abbrev main_v80_2 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_5 : Ref sig .tc := ⟨.hbm, 102, rfl⟩
abbrev main_v85 : Ref sig .tc := ⟨.hbm, 103, rfl⟩
abbrev main_cst_6 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_7 : Ref sig .tc := ⟨.hbm, 110, rfl⟩
abbrev main_v91 : Ref sig .tc := ⟨.hbm, 111, rfl⟩
abbrev main_v92 : Ref sig .tc := ⟨.hbm, 112, rfl⟩
abbrev main_cst_8 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c0_i32_178 : BitVec 32 := 0#32
  let v599 : BitVec 1 := Scalar.cmpi .eq arg1 c0_i32_178
  let v600 : BitVec 32 := Scalar.extui v599
  let c0_i32_179 : BitVec 32 := 0#32
  let v601 : BitVec 1 := Scalar.cmpi .ne v600 c0_i32_179
  v601

def k0_cond3 (i : grid0.Coords) : BitVec 1 :=
  let arg1 : BitVec 32 := BitVec.ofNat 32 (i 1).val
  let c0_i32_180 : BitVec 32 := 0#32
  let v602 : BitVec 1 := Scalar.cmpi .ne arg1 c0_i32_180
  let v603 : BitVec 32 := Scalar.extui v602
  let c0_i32_181 : BitVec 32 := 0#32
  let v604 : BitVec 1 := Scalar.cmpi .ne v603 c0_i32_181
  v604

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4x4096x2048 : Shape := ⟨3, ![4, 4096, 2048]⟩
abbrev S2048x2048 : Shape := ⟨2, ![2048, 2048]⟩
abbrev S16x4 : Shape := ⟨2, ![16, 4]⟩
abbrev S4x16x128x128 : Shape := ⟨4, ![4, 16, 128, 128]⟩
abbrev S4x16x128 : Shape := ⟨3, ![4, 16, 128]⟩
abbrev S4x4096x16x128 : Shape := ⟨4, ![4, 4096, 16, 128]⟩
abbrev S4x16x4096x128 : Shape := ⟨4, ![4, 16, 4096, 128]⟩
abbrev S_ : Shape := ⟨0, ![]⟩
abbrev S16x4x128x4x4096 : Shape := ⟨5, ![16, 4, 128, 4, 4096]⟩
abbrev S4x4x16x4096x128 : Shape := ⟨5, ![4, 4, 16, 4096, 128]⟩
abbrev S16x4x4x4096 : Shape := ⟨4, ![16, 4, 4, 4096]⟩
abbrev S4x4x16x4096 : Shape := ⟨4, ![4, 4, 16, 4096]⟩
abbrev S4x4x16x4096x1 : Shape := ⟨5, ![4, 4, 16, 4096, 1]⟩
abbrev S4 : Shape := ⟨1, ![4]⟩
abbrev S4x1x1x1x1 : Shape := ⟨5, ![4, 1, 1, 1, 1]⟩
abbrev S16 : Shape := ⟨1, ![16]⟩
abbrev S16x1 : Shape := ⟨2, ![16, 1]⟩
abbrev S16x4x4096x128 : Shape := ⟨4, ![16, 4, 4096, 128]⟩
abbrev S1x16x128x128 : Shape := ⟨4, ![1, 16, 128, 128]⟩
abbrev S16x128x128 : Shape := ⟨3, ![16, 128, 128]⟩
abbrev S1x16x128 : Shape := ⟨3, ![1, 16, 128]⟩
abbrev S16x128 : Shape := ⟨2, ![16, 128]⟩
abbrev S16x128x4x4096 : Shape := ⟨4, ![16, 128, 4, 4096]⟩
abbrev S16x4x4096 : Shape := ⟨3, ![16, 4, 4096]⟩
abbrev S4x16x4096 : Shape := ⟨3, ![4, 16, 4096]⟩
abbrev S4x16x4096x1 : Shape := ⟨4, ![4, 16, 4096, 1]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S16x4, .f32⟩
  | .hbm, ⟨6, _⟩ => ⟨S4x16x128x128, .f32⟩
  | .hbm, ⟨7, _⟩ => ⟨S4x16x128, .f32⟩
  | .hbm, ⟨8, _⟩ => ⟨S2048x2048, .f32⟩
  | .hbm, ⟨9, _⟩ => ⟨S4x4096x2048, .f32⟩
  | .hbm, ⟨10, _⟩ => ⟨S4x4096x16x128, .f32⟩
  | .hbm, ⟨11, _⟩ => ⟨S4x16x4096x128, .f32⟩
  | .hbm, ⟨12, _⟩ => ⟨S2048x2048, .f32⟩
  | .hbm, ⟨13, _⟩ => ⟨S4x4096x2048, .f32⟩
  | .hbm, ⟨14, _⟩ => ⟨S4x4096x16x128, .f32⟩
  | .hbm, ⟨15, _⟩ => ⟨S4x16x4096x128, .f32⟩
  | .hbm, ⟨16, _⟩ => ⟨S2048x2048, .f32⟩
  | .hbm, ⟨17, _⟩ => ⟨S4x4096x2048, .f32⟩
  | .hbm, ⟨18, _⟩ => ⟨S4x4096x16x128, .f32⟩
  | .hbm, ⟨19, _⟩ => ⟨S4x16x4096x128, .f32⟩
  | .hbm, ⟨20, _⟩ => ⟨S_, .f32⟩
  | .hbm, ⟨21, _⟩ => ⟨S4x16x4096x128, .f32⟩
  | .hbm, ⟨22, _⟩ => ⟨S4x16x4096x128, .i1⟩
  | .hbm, ⟨23, _⟩ => ⟨S_, .f32⟩
  | .hbm, ⟨24, _⟩ => ⟨S4x16x4096x128, .f32⟩
  | .hbm, ⟨25, _⟩ => ⟨S4x16x4096x128, .i1⟩
  | .hbm, ⟨26, _⟩ => ⟨S_, .f32⟩
  | .hbm, ⟨27, _⟩ => ⟨S_, .f32⟩
  | .hbm, ⟨28, _⟩ => ⟨S4x16x4096x128, .f32⟩
  | .hbm, ⟨29, _⟩ => ⟨S4x16x4096x128, .f32⟩
  | .hbm, ⟨30, _⟩ => ⟨S4x16x4096x128, .f32⟩
  | .hbm, ⟨31, _⟩ => ⟨S_, .f32⟩
  | .hbm, ⟨32, _⟩ => ⟨S4x16x4096x128, .f32⟩
  | .hbm, ⟨33, _⟩ => ⟨S4x16x4096x128, .f32⟩
  | .hbm, ⟨34, _⟩ => ⟨S4x16x4096x128, .f32⟩
  | .hbm, ⟨35, _⟩ => ⟨S_, .f32⟩
  | .hbm, ⟨36, _⟩ => ⟨S4x16x4096x128, .f32⟩
  | .hbm, ⟨37, _⟩ => ⟨S4x16x4096x128, .f32⟩
  | .hbm, ⟨38, _⟩ => ⟨S16x4x128x4x4096, .f32⟩
  | .hbm, ⟨39, _⟩ => ⟨S4x4x16x4096x128, .f32⟩
  | .hbm, ⟨40, _⟩ => ⟨S16x4x4x4096, .f32⟩
  | .hbm, ⟨41, _⟩ => ⟨S4x4x16x4096, .f32⟩
  | .hbm, ⟨42, _⟩ => ⟨S_, .f32⟩
  | .hbm, ⟨43, _⟩ => ⟨S_, .f32⟩
  | .hbm, ⟨44, _⟩ => ⟨S4x4x16x4096, .f32⟩
  | .hbm, ⟨45, _⟩ => ⟨S4x4x16x4096, .f32⟩
  | .hbm, ⟨46, _⟩ => ⟨S4x4x16x4096x1, .f32⟩
  | .hbm, ⟨47, _⟩ => ⟨S4x4x16x4096x128, .f32⟩
  | .hbm, ⟨48, _⟩ => ⟨S4x4x16x4096x128, .f32⟩
  | .hbm, ⟨49, _⟩ => ⟨S_, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .i1⟩
  | .hbm, ⟨54, _⟩ => ⟨S4, .f32⟩
  | .hbm, ⟨55, _⟩ => ⟨S4x1x1x1x1, .f32⟩
  | .hbm, ⟨56, _⟩ => ⟨S4x4x16x4096x128, .f32⟩
  | .hbm, ⟨57, _⟩ => ⟨S4x4x16x4096x128, .f32⟩
  | .hbm, ⟨58, _⟩ => ⟨S_, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16x1, .f32⟩
  | .hbm, ⟨64, _⟩ => ⟨S16x4, .f32⟩
  | .hbm, ⟨65, _⟩ => ⟨S16x4, .f32⟩
  | .hbm, ⟨66, _⟩ => ⟨S16x4, .f32⟩
  | .hbm, ⟨67, _⟩ => ⟨S_, .f32⟩
  | .hbm, ⟨68, _⟩ => ⟨S16, .f32⟩
  | .hbm, ⟨69, _⟩ => ⟨S16x1, .f32⟩
  | .hbm, ⟨70, _⟩ => ⟨S16x4, .f32⟩
  | .hbm, ⟨71, _⟩ => ⟨S16x4, .f32⟩
  | .hbm, ⟨72, _⟩ => ⟨S16x4x4096x128, .f32⟩
  | .hbm, ⟨73, _⟩ => ⟨S4x16x4096x128, .f32⟩
  | .hbm, ⟨74, _⟩ => ⟨S_, .f32⟩
  | .hbm, ⟨75, _⟩ => ⟨S4x16x4096x128, .f32⟩
  | .hbm, ⟨76, _⟩ => ⟨S4x16x4096x128, .i1⟩
  | .hbm, ⟨77, _⟩ => ⟨S_, .f32⟩
  | .hbm, ⟨78, _⟩ => ⟨S4x16x4096x128, .f32⟩
  | .hbm, ⟨79, _⟩ => ⟨S4x16x4096x128, .i1⟩
  | .hbm, ⟨80, _⟩ => ⟨S_, .f32⟩
  | .hbm, ⟨81, _⟩ => ⟨S_, .f32⟩
  | .hbm, ⟨82, _⟩ => ⟨S4x16x4096x128, .f32⟩
  | .hbm, ⟨83, _⟩ => ⟨S4x16x4096x128, .f32⟩
  | .hbm, ⟨84, _⟩ => ⟨S4x16x4096x128, .f32⟩
  | .hbm, ⟨85, _⟩ => ⟨S_, .f32⟩
  | .hbm, ⟨86, _⟩ => ⟨S4x16x4096x128, .f32⟩
  | .hbm, ⟨87, _⟩ => ⟨S4x16x4096x128, .f32⟩
  | .hbm, ⟨88, _⟩ => ⟨S4x16x4096x128, .f32⟩
  | .hbm, ⟨89, _⟩ => ⟨S_, .f32⟩
  | .hbm, ⟨90, _⟩ => ⟨S4x16x4096x128, .f32⟩
  | .hbm, ⟨91, _⟩ => ⟨S4x16x4096x128, .f32⟩
  | .hbm, ⟨92, _⟩ => ⟨S1x16x128x128, .f32⟩
  | .hbm, ⟨93, _⟩ => ⟨S16x128x128, .f32⟩
  | .hbm, ⟨94, _⟩ => ⟨S1x16x128, .f32⟩
  | .hbm, ⟨95, _⟩ => ⟨S16x128, .f32⟩
  | .hbm, ⟨96, _⟩ => ⟨S16x128x4x4096, .f32⟩
  | .hbm, ⟨97, _⟩ => ⟨S4x16x4096x128, .f32⟩
  | .hbm, ⟨98, _⟩ => ⟨S16x4x4096, .f32⟩
  | .hbm, ⟨99, _⟩ => ⟨S4x16x4096, .f32⟩
  | .hbm, ⟨100, _⟩ => ⟨S_, .f32⟩
  | .hbm, ⟨101, _⟩ => ⟨S_, .f32⟩
  | .hbm, ⟨102, _⟩ => ⟨S4x16x4096, .f32⟩
  | .hbm, ⟨103, _⟩ => ⟨S4x16x4096, .f32⟩
  | .hbm, ⟨104, _⟩ => ⟨S4x16x4096x1, .f32⟩
  | .hbm, ⟨105, _⟩ => ⟨S4x16x4096x128, .f32⟩
  | .hbm, ⟨106, _⟩ => ⟨S4x16x4096x128, .f32⟩
  | .hbm, ⟨107, _⟩ => ⟨S4x16x4096x128, .f32⟩
  | .hbm, ⟨108, _⟩ => ⟨S16x128x128, .f32⟩
  | .hbm, ⟨109, _⟩ => ⟨S_, .f32⟩
  | .hbm, ⟨110, _⟩ => ⟨S16x128x128, .f32⟩
  | .hbm, ⟨111, _⟩ => ⟨S16x128x128, .f32⟩
  | .hbm, ⟨112, _⟩ => ⟨S16x128x128, .f32⟩
  | .hbm, ⟨113, _⟩ => ⟨S_, .f32⟩
  | .hbm, ⟨114, _⟩ => ⟨S16x128, .f32⟩
  | .hbm, ⟨115, _⟩ => ⟨S_, .f32⟩
  | .hbm, ⟨116, _⟩ => ⟨S16x128, .f32⟩
  | .hbm, ⟨117, _⟩ => ⟨S16x128, .f32⟩
  | .hbm, ⟨118, _⟩ => ⟨S16x128, .f32⟩
  | .hbm, ⟨119, _⟩ => ⟨S4x4096x16x128, .f32⟩
  | .hbm, ⟨120, _⟩ => ⟨S4x4096x2048, .f32⟩
  | .hbm, ⟨121, _⟩ => ⟨S2048x2048, .f32⟩
  | .hbm, ⟨122, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_cst_1 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v4 : Ref sig .tc := ⟨.hbm, 29, rfl⟩
abbrev main_call0_v5 : Ref sig .tc := ⟨.hbm, 30, rfl⟩
abbrev main_call0_cst_2 : Ref sig .tc := ⟨.hbm, 31, rfl⟩
abbrev main_call0_v6 : Ref sig .tc := ⟨.hbm, 32, rfl⟩
abbrev main_call0_v7 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_cst_0 : Ref sig .tc := ⟨.hbm, 77, rfl⟩
abbrev main_call2_v2 : Ref sig .tc := ⟨.hbm, 78, rfl⟩
abbrev main_call2_v3 : Ref sig .tc := ⟨.hbm, 79, rfl⟩
abbrev main_call2_cst_1 : Ref sig .tc := ⟨.hbm, 80, rfl⟩
abbrev main_call2_call0_v0 : Ref sig .tc := ⟨.hbm, 81, rfl⟩
abbrev main_call2_call0_v1 : Ref sig .tc := ⟨.hbm, 82, rfl⟩
abbrev main_call2_v4 : Ref sig .tc := ⟨.hbm, 83, rfl⟩
abbrev main_call2_v5 : Ref sig .tc := ⟨.hbm, 84, rfl⟩
abbrev main_call2_cst_2 : Ref sig .tc := ⟨.hbm, 85, rfl⟩
abbrev main_call2_v6 : Ref sig .tc := ⟨.hbm, 86, rfl⟩
abbrev main_call2_v7 : Ref sig .tc := ⟨.hbm, 87, rfl⟩
abbrev main_v43 : Ref sig .tc := ⟨.hbm, 88, rfl⟩
abbrev main_cst_6 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_7 : Ref sig .tc := ⟨.hbm, 100, rfl⟩
abbrev main_call3_v0 : Ref sig .tc := ⟨.hbm, 101, rfl⟩
abbrev main_call3_v1 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_8 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_9 : Ref sig .tc := ⟨.hbm, 113, rfl⟩
abbrev main_v63 : Ref sig .tc := ⟨.hbm, 114, rfl⟩
abbrev main_cst_10 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩

abbrev nD : Nat := 1
abbrev τ : Topo := Topo.v7x

variable {F : FTy → Type} [FloatOps F]
-- ==== Proof.MainShared.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
  What the runs of the first call's body and its frame share: the windows' blocks, the body's branch conditions by the
  point, where the outputs' buffers are stored to, the buffers that the body is handed, and what it owns besides. The
  text follows the module that is generated when the first call is taken alone, carried over to the program of both calls.
-/

@[expose] public section

-- membership in a rectangle is looked up coordinate by coordinate, along long axes
set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`). -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`). -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`). -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`). -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 0 (mod 32) — by arithmetic of the point. -/
theorem hcond0_1 : ∀ t : Fin cfg0.N, cond0_1 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 32 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — by arithmetic of the point. -/
theorem hcond0_2 : ∀ t : Fin cfg0.N, cond0_2 (grid0.coords t) ↔ 1 ≤ t.val % 32 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_2, k0_cond3, e0, e1]
    word_cmp
   : ∀ t : Fin grid0.N, cond0_2 (grid0.coords t) ↔ 1 ≤ t.val % 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Whether output 8's buffer is FRESH at each position `1 ‥ N` — holds nothing the body stored since the region's entry or the
    last write-back (written back at the point before, or idle there and fresh before it) —, as a bitmask, bit `n` for position `n + 1`; position 0 is fresh. `freshTab0_8_step` checks it against the configuration's own
    step point by point (`fresh0_8_eq` draws the conclusion). -/
def freshTab0_8 : ℕ → Bool
  | 0 => true
  | n + 1 => (0x8000000080000000 : ℕ).testBit n
/-- The table of the memory's update agrees with the configuration's own step from each point to the next. -/
theorem freshTab0_8_step : ∀ t : Fin cfg0.N,
    freshTab0_8 (t.val + 1) = ((cfg0.win 8).flush t || (cfg0.idle 8 (cfg0.grid.coords t) && freshTab0_8 t.val)) := by decide +kernel
/-- So the buffer of the memory's update is fresh exactly where the table says. -/
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → cond0_1 (grid0.coords t) → ¬cond0_2 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → ¬cond0_1 (grid0.coords t) → cond0_2 (grid0.coords t) → cfg0.idle 8 (grid0.coords t) = false := by decide +kernel
/-- At the points of case B, which keeps output 8's prior contents (reads it before covering, or covers it in part), the
    window's buffer is not FRESH: something was stored into it since the region's entry or its last write-back, idle points
    between or not, by the table `freshTab0_8`. -/
theorem notFresh0_8_B : ∀ t : Fin cfg0.N, ¬cond0_0 (grid0.coords t) → ¬cond0_1 (grid0.coords t) → cond0_2 (grid0.coords t) → cfg0.fresh 8 t.val = false := by
  intro t; rw [fresh0_8_eq t]; revert t; decide +kernel
/-- Whether output 9's buffer is FRESH at each position `1 ‥ N` — holds nothing the body stored since the region's entry or the
    last write-back (written back at the point before, or idle there and fresh before it) —, as a bitmask, bit `n` for position `n + 1`; position 0 is fresh. `freshTab0_9_step` checks it against the configuration's own
    step point by point (`fresh0_9_eq` draws the conclusion). -/
def freshTab0_9 : ℕ → Bool
  | 0 => true
  | n + 1 => (0x8000000080000000 : ℕ).testBit n
/-- The table of the norm's update agrees with the configuration's own step from each point to the next. -/
theorem freshTab0_9_step : ∀ t : Fin cfg0.N,
    freshTab0_9 (t.val + 1) = ((cfg0.win 9).flush t || (cfg0.idle 9 (cfg0.grid.coords t) && freshTab0_9 t.val)) := by decide +kernel
/-- So the buffer of the norm's update is fresh exactly where the table says. -/
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → cond0_1 (grid0.coords t) → ¬cond0_2 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → ¬cond0_1 (grid0.coords t) → cond0_2 (grid0.coords t) → cfg0.idle 9 (grid0.coords t) = false := by decide +kernel
/-- At the points of case B, which keeps output 9's prior contents (reads it before covering, or covers it in part), the
    window's buffer is not FRESH: something was stored into it since the region's entry or its last write-back, idle points
    between or not, by the table `freshTab0_9`. -/
theorem notFresh0_9_B : ∀ t : Fin cfg0.N, ¬cond0_0 (grid0.coords t) → ¬cond0_1 (grid0.coords t) → cond0_2 (grid0.coords t) → cfg0.fresh 9 t.val = false := by
  intro t; rw [fresh0_9_eq t]; revert t; decide +kernel

/-! ## The buffers of the body -/

/-- One staging buffer of output window 7, through which its contents are stated (`View.read_writes_of_cover`: the
    choice does not matter). -/
abbrev VO0_7 : View sig .tc .vmem S256x2048 .bf16 := (Memref.whole cc0_stg7_0 : Memref sig .tc .vmem S256x2048 .bf16).view
/-- One staging buffer of output window 8, through which its contents are stated (`View.read_writes_of_cover`: the
    choice does not matter). -/
abbrev VO0_8 : View sig .tc .vmem S1x16x128x128 .f32 := (Memref.whole cc0_stg8_0 : Memref sig .tc .vmem S1x16x128x128 .f32).view
/-- One staging buffer of output window 9, through which its contents are stated (`View.read_writes_of_cover`: the
    choice does not matter). -/
abbrev VO0_9 : View sig .tc .vmem S1x1x2048 .f32 := (Memref.whole cc0_stg9_0 : Memref sig .tc .vmem S1x1x2048 .f32).view
/-- Each window's current staging memref at point `t`, as the body is handed it. -/
abbrev ms0_0 (t : Fin cfg0.N) : Memref sig .tc .vmem S256x2048 .f32 := win0_0.stage (cfg0.slots t 0)
/-- That buffer of window 0 is a whole one. -/
abbrev hs0_0 (t : Fin cfg0.N) : (ms0_0 t).IsWhole := hstage0_0 ((cfg0.slots t 0).cast nbuf0_0)
/-- The buffer that window 1 uses at point `t`. -/
abbrev ms0_1 (t : Fin cfg0.N) : Memref sig .tc .vmem S16x128x512 .bf16 := win0_1.stage (cfg0.slots t 1)
/-- That buffer of window 1 is a whole one. -/
abbrev hs0_1 (t : Fin cfg0.N) : (ms0_1 t).IsWhole := hstage0_1 ((cfg0.slots t 1).cast nbuf0_1)
/-- The buffer that window 2 uses at point `t`. -/
abbrev ms0_2 (t : Fin cfg0.N) : Memref sig .tc .vmem S16x128x128 .bf16 := win0_2.stage (cfg0.slots t 2)
/-- That buffer of window 2 is a whole one. -/
abbrev hs0_2 (t : Fin cfg0.N) : (ms0_2 t).IsWhole := hstage0_2 ((cfg0.slots t 2).cast nbuf0_2)
/-- The buffer that window 3 uses at point `t`. -/
abbrev ms0_3 (t : Fin cfg0.N) : Memref sig .tc .vmem S2048x64 .bf16 := win0_3.stage (cfg0.slots t 3)
/-- That buffer of window 3 is a whole one. -/
abbrev hs0_3 (t : Fin cfg0.N) : (ms0_3 t).IsWhole := hstage0_3 ((cfg0.slots t 3).cast nbuf0_3)
/-- The buffer that window 4 uses at point `t`. -/
abbrev ms0_4 (t : Fin cfg0.N) : Memref sig .tc .vmem S2048x16 .bf16 := win0_4.stage (cfg0.slots t 4)
/-- That buffer of window 4 is a whole one. -/
abbrev hs0_4 (t : Fin cfg0.N) : (ms0_4 t).IsWhole := hstage0_4 ((cfg0.slots t 4).cast nbuf0_4)
/-- The buffer that window 5 uses at point `t`. -/
abbrev ms0_5 (t : Fin cfg0.N) : Memref sig .tc .vmem S4x64x2048 .bf16 := win0_5.stage (cfg0.slots t 5)
/-- That buffer of window 5 is a whole one. -/
abbrev hs0_5 (t : Fin cfg0.N) : (ms0_5 t).IsWhole := hstage0_5 ((cfg0.slots t 5).cast nbuf0_5)
/-- The buffer that window 6 uses at point `t`. -/
abbrev ms0_6 (t : Fin cfg0.N) : Memref sig .tc .vmem S16x2048 .bf16 := win0_6.stage (cfg0.slots t 6)
/-- That buffer of window 6 is a whole one. -/
abbrev hs0_6 (t : Fin cfg0.N) : (ms0_6 t).IsWhole := hstage0_6 ((cfg0.slots t 6).cast nbuf0_6)
/-- The buffer that window 7 uses at point `t`. -/
abbrev ms0_7 (t : Fin cfg0.N) : Memref sig .tc .vmem S256x2048 .bf16 := win0_7.stage (cfg0.slots t 7)
/-- That buffer of window 7 is a whole one. -/
abbrev hs0_7 (t : Fin cfg0.N) : (ms0_7 t).IsWhole := hstage0_7 ((cfg0.slots t 7).cast nbuf0_7)
/-- The buffer that window 8 uses at point `t`. -/
abbrev ms0_8 (t : Fin cfg0.N) : Memref sig .tc .vmem S1x16x128x128 .f32 := win0_8.stage (cfg0.slots t 8)
/-- That buffer of window 8 is a whole one. -/
abbrev hs0_8 (t : Fin cfg0.N) : (ms0_8 t).IsWhole := hstage0_8 ((cfg0.slots t 8).cast nbuf0_8)
/-- The buffer that window 9 uses at point `t`. -/
abbrev ms0_9 (t : Fin cfg0.N) : Memref sig .tc .vmem S1x1x2048 .f32 := win0_9.stage (cfg0.slots t 9)
/-- That buffer of window 9 is a whole one. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S3x2048x2048 .bf16 := Memref.whole cc0_scratch0
/-- The scratch `arg13` the kernel carries between points, as a view: what it holds is stated through it. -/
abbrev VS0_0 : View sig .tc .vmem S3x2048x2048 .bf16 := scM0_0.view
/-- The operands left in HBM that the body copies into scratch itself, whole. -/
abbrev hbM0_0 : Memref sig .tc .hbm S3x2048x2048 .bf16 := Memref.whole main_v8
/-- The contents of the buffer of memref `M` on core `c`. -/
abbrev HbBuf0 (c : Dev nD) {sp : Space} {S : Shape} {e : EltTy} (M : Memref sig .tc sp S e) : Type := Buf (Elt F) (M.view.loc (c : Thread nD τ))
/-- That buffer, held whole at the contents `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 14] : Fin 1 → SemLoc sig) j
/-- The transfer's semaphore belongs to no window. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0) := by
  rw [Pipeline.ownSems0_eq_of_list c osem0 [0] (by decide) (by decide)]; rfl
/-- The HBM operands the body moves, as references: unscoped, no window's array (`Pipeline.restRefs`). -/
def H0 : Finset (Ref sig .tc) := {main_v8}
/-- The weights in HBM are no window's array. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V c b) : sProp 𝕄) = iprop(hbPt0 c hbM0_0 (V c main_v8)) := by
  rw [BI.bigSep_eq_bigSepL_of_eq [main_v8] (by decide) (by decide)]; rfl

/-- The staging buffers of the second call, each whole at some contents: scoped, and not touched here. -/
def restSt (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The invariant at the region's ends, conjunct by conjunct: the scratch at some contents, the second call's staging
    buffers at some contents, the generator register at some state, the transfer's cell at zero, the weights in HBM
    at their entry contents. -/
theorem PhiD0_eq (c : Dev nD) :
    (Pipeline.ΦD osem0 spec0 H0 V c : sProp 𝕄)
      = iprop(((∃ d, owns (c : Thread nD τ) scM0_0 fullShare d) ∗ restSt c) ∗ (∃ r, prngReg c r) ∗ iprop(semVal ((c : Thread nD τ), SemLoc.dma 14) 0) ∗ iprop(hbPt0 c hbM0_0 (V c main_v8))) := by
  rw [Pipeline.ΦD_eq, scopedRest0_eq, ownSems00_eq, hbmPts0_eq]; simp only [scM0_0, owns_whole, restSt]; try rfl

end Cert.KernelIdeal.Main

end
-- ==== Proof.MainRunA.lean ====
module

public import proofs.«01_k».proof.Proof.MainShared

/-!
  One run of the first call's body in case A, the first point of a half: the weights are fetched and the sums begin. What the stores leave is found by running the body step by step,
  and is the first part of `kernelRun0_A`; the second part says that the body does end so. The text follows the module
  that is generated when the first call is taken alone, carried over to the program of both calls.
-/

@[expose] public section

-- membership in a rectangle is looked up coordinate by coordinate, along long axes
set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- the body has many steps
set_option maxHeartbeats 1000000 in
/-- In case A (the first point of a half: the weights are fetched, the sums begin) the body, on whole buffers with the
    inputs at `x·` and the weights in HBM at `fh0`, ends: the inputs and the weights are as they were, the transfer's
    semaphore is at zero, and each output's buffer and the scratch hold the listed pieces (the last store first). -/
noncomputable def kernelRun0_A (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) :
    Σ' (L7 : List (View.Piece (Elt F) S256x2048 .bf16)), Σ' (L8 : List (View.Piece (Elt F) S1x16x128x128 .f32)), Σ' (L9 : List (View.Piece (Elt F) S1x1x2048 .f32)), { LS0 : List (View.Piece (Elt F) S3x2048x2048 .bf16) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 14) 0 ∗ hbPt0 c hbM0_0 fh0 ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ semVal ((c : Thread nD τ), SemLoc.dma 14) 0 ∗ hbPt0 c hbM0_0 fh0 ∗ (∃ W', owes (c : Thread nD τ) 0 W')) -∗ K ⟨⟩))
          ⊢ wp frame (wpE (defs₀ (F := F)) Variants.none c none) Set.univ (cc0_infini_attention_main i arg2 harg2 (Memref.whole main_v8) (Memref.isWhole_whole _) arg4 harg4 arg5 harg5 arg6 harg6 arg7 harg7 arg8 harg8 arg9 harg9 arg10 harg10 arg11 harg11 arg12 harg12 arg13 harg13 cc0_scratch1) K } := by
  refine ⟨?_, ?_, ?_, ?_, fun W K => ?run⟩
  case run =>
    simp only [cc0_infini_attention_main_eq_skeleton]; unfold cc0_infini_attention_main_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hq0, Hh0, HW, Hk⟩
    obtain rfl := harg2.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [HS0]; · iexists _; iexact HS0
    isplitl [Hq0]; · iexact Hq0
    isplitl [Hh0]; · iexact Hh0
    iexists _; iexact HW

end Cert.KernelIdeal.Main

end
-- ==== Proof.MainRunB.lean ====
module

public import proofs.«01_k».proof.Proof.MainRunA

/-!
  One run of the first call's body in case B, a later point of a half: the sums are added to. What the stores leave is found by running the body step by step,
  and is the first part of `kernelRun0_B`; the second part says that the body does end so. The text follows the module
  that is generated when the first call is taken alone, carried over to the program of both calls.
-/

@[expose] public section

-- membership in a rectangle is looked up coordinate by coordinate, along long axes
set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- the body has many steps
set_option maxHeartbeats 1000000 in
/-- In case B (a later point of a half: the sums are added to) the body, on whole buffers with the
    inputs at `x·` and the weights in HBM at `fh0`, ends: the inputs and the weights are as they were, the transfer's
    semaphore is at zero, and each output's buffer and the scratch hold the listed pieces (the last store first). -/
noncomputable def kernelRun0_B (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) :
    Σ' (L7 : List (View.Piece (Elt F) S256x2048 .bf16)), Σ' (L8 : List (View.Piece (Elt F) S1x16x128x128 .f32)), Σ' (L9 : List (View.Piece (Elt F) S1x1x2048 .f32)), { LS0 : List (View.Piece (Elt F) S3x2048x2048 .bf16) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xo8 ∗ owns (c : Thread nD τ) arg12 fullShare xo9 ∗ owns (c : Thread nD τ) arg13 fullShare xs0 ∗ semVal ((c : Thread nD τ), SemLoc.dma 14) 0 ∗ hbPt0 c hbM0_0 fh0 ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ owns (c : Thread nD τ) arg13 fullShare xs0 ∗ semVal ((c : Thread nD τ), SemLoc.dma 14) 0 ∗ hbPt0 c hbM0_0 fh0 ∗ (∃ W', owes (c : Thread nD τ) 0 W')) -∗ K ⟨⟩))
          ⊢ wp frame (wpE (defs₀ (F := F)) Variants.none c none) Set.univ (cc0_infini_attention_main i arg2 harg2 (Memref.whole main_v8) (Memref.isWhole_whole _) arg4 harg4 arg5 harg5 arg6 harg6 arg7 harg7 arg8 harg8 arg9 harg9 arg10 harg10 arg11 harg11 arg12 harg12 arg13 harg13 cc0_scratch1) K } := by
  refine ⟨?_, ?_, ?_, [], fun W K => ?run⟩
  case run =>
    simp only [cc0_infini_attention_main_eq_skeleton]; unfold cc0_infini_attention_main_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hq0, Hh0, HW, Hk⟩
    obtain rfl := harg2.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9; obtain rfl := harg13.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [HS0]
    · iexists _; isplitr; · ipureintro; exact harg13.read_unread _
      iexact HS0
    isplitl [Hq0]; · iexact Hq0
    isplitl [Hh0]; · iexact Hh0
    iexists _; iexact HW

end Cert.KernelIdeal.Main

end
-- ==== Proof.MainFrame.lean ====
module

public import proofs.«01_k».proof.Proof.MainRunB
public import Idealize.ShloMosaic.Lib.Claim

@[expose] public section

-- membership in a rectangle is looked up coordinate by coordinate, along long axes
set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-- In case A the stores to output 7 tile its block, so every index of the block lies in one of them. -/
theorem cover0_A_7 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) (y : S256x2048.Idx) :
    ∃ pc ∈ (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).1, y ∈ pc.1.set :=
  View.cover_of_tiledL (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).1 S256x2048.size (by sl_kernel_rfl) y

/-- What the body leaves in output 7's staging buffer in case A. -/
def out0_A_7 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) : Vec F S256x2048 .bf16 :=
  VO0_7.read (Elt F) (VO0_7.writes (Elt F) VO0_7.junk (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).1)

/-- In case A the stores to output 8 tile its block, so every index of the block lies in one of them. -/
theorem cover0_A_8 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) (y : S1x16x128x128.Idx) :
    ∃ pc ∈ (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.1, y ∈ pc.1.set :=
  View.cover_of_tiledL (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.1 S1x1x128x128.size (by sl_kernel_rfl) y

/-- What the body leaves in output 8's staging buffer in case A. -/
def out0_A_8 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) : Vec F S1x16x128x128 .f32 :=
  VO0_8.read (Elt F) (VO0_8.writes (Elt F) VO0_8.junk (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.1)

/-- In case A the stores to output 9 tile its block, so every index of the block lies in one of them. -/
theorem cover0_A_9 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) (y : S1x1x2048.Idx) :
    ∃ pc ∈ (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.2.1, y ∈ pc.1.set :=
  View.cover_of_tiledL (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.2.1 S1x1x2048.size (by sl_kernel_rfl) y

/-- What the body leaves in output 9's staging buffer in case A. -/
def out0_A_9 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) : Vec F S1x1x2048 .f32 :=
  VO0_9.read (Elt F) (VO0_9.writes (Elt F) VO0_9.junk (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.2.1)

/-- In case A the transfer into the scratch fills it whole. -/
theorem scover0_A_0 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) (y : S3x2048x2048.Idx) :
    ∃ pc ∈ (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.2.2.1, y ∈ pc.1.set :=
  View.cover_of_tiledL (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.2.2.1 S3x2048x2048.size (by sl_kernel_rfl) y

/-- What case A leaves in scratch `arg13`: its pieces read back over junk. -/
def sout0_A_0 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : cond0_0 i) (hc1 : cond0_1 i) (hc2 : ¬cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (fh0 : HbBuf0 (F := F) c hbM0_0) : Vec F S3x2048x2048 .bf16 :=
  VS0_0.read (Elt F) (VS0_0.writes (Elt F) VS0_0.junk (kernelRun0_A c i arg2 harg2 arg4 harg4 arg5 harg5 arg6 harg6 arg7 harg7 arg8 harg8 arg9 harg9 arg10 harg10 arg11 harg11 arg12 harg12 arg13 harg13 hc0 hc1 hc2 x0 x1 x2 x3 x4 x5 x6 fh0).2.2.2.1)

/-- In case B the stores to output 7 tile its block, so every index of the block lies in one of them. -/
theorem cover0_B_7 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) (y : S256x2048.Idx) :
    ∃ pc ∈ (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).1, y ∈ pc.1.set :=
  View.cover_of_tiledL (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).1 S256x2048.size (by sl_kernel_rfl) y

/-- What the body leaves in output 7's staging buffer in case B. -/
def out0_B_7 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) : Vec F S256x2048 .bf16 :=
  VO0_7.read (Elt F) (VO0_7.writes (Elt F) VO0_7.junk (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).1)

/-- In case B the stores to output 8 tile its block, so every index of the block lies in one of them. -/
theorem cover0_B_8 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) (y : S1x16x128x128.Idx) :
    ∃ pc ∈ (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).2.1, y ∈ pc.1.set :=
  View.cover_of_tiledL (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).2.1 S1x1x128x128.size (by sl_kernel_rfl) y

/-- What the body leaves in output 8's staging buffer in case B. -/
def out0_B_8 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) : Vec F S1x16x128x128 .f32 :=
  VO0_8.read (Elt F) (VO0_8.writes (Elt F) VO0_8.junk (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).2.1)

/-- In case B the stores to output 9 tile its block, so every index of the block lies in one of them. -/
theorem cover0_B_9 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) (y : S1x1x2048.Idx) :
    ∃ pc ∈ (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).2.2.1, y ∈ pc.1.set :=
  View.cover_of_tiledL (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).2.2.1 S1x1x2048.size (by sl_kernel_rfl) y

/-- What the body leaves in output 9's staging buffer in case B. -/
def out0_B_9 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) : Vec F S1x1x2048 .f32 :=
  VO0_9.read (Elt F) (VO0_9.writes (Elt F) VO0_9.junk (kernelRun0_B c i arg2 harg2 arg4 harg4 arg5 harg5 arg6 harg6 arg7 harg7 arg8 harg8 arg9 harg9 arg10 harg10 arg11 harg11 arg12 harg12 arg13 harg13 hc0 hc1 hc2 x0 x1 x2 x3 x4 x5 x6 xo8 xo9 xs0 fh0).2.2.1)

/-- Case B stores nothing into scratch `arg13`: it holds what the point before left. -/
def sout0_B_0 (c : Dev nD) (i : grid0.Coords) (arg2 : Memref sig .tc .vmem S256x2048 .f32) (harg2 : arg2.IsWhole) (arg4 : Memref sig .tc .vmem S16x128x512 .bf16) (harg4 : arg4.IsWhole) (arg5 : Memref sig .tc .vmem S16x128x128 .bf16) (harg5 : arg5.IsWhole) (arg6 : Memref sig .tc .vmem S2048x64 .bf16) (harg6 : arg6.IsWhole) (arg7 : Memref sig .tc .vmem S2048x16 .bf16) (harg7 : arg7.IsWhole) (arg8 : Memref sig .tc .vmem S4x64x2048 .bf16) (harg8 : arg8.IsWhole) (arg9 : Memref sig .tc .vmem S16x2048 .bf16) (harg9 : arg9.IsWhole) (arg10 : Memref sig .tc .vmem S256x2048 .bf16) (harg10 : arg10.IsWhole) (arg11 : Memref sig .tc .vmem S1x16x128x128 .f32) (harg11 : arg11.IsWhole) (arg12 : Memref sig .tc .vmem S1x1x2048 .f32) (harg12 : arg12.IsWhole) (arg13 : Memref sig .tc .vmem S3x2048x2048 .bf16) (harg13 : arg13.IsWhole) (hc0 : ¬cond0_0 i) (hc1 : ¬cond0_1 i) (hc2 : cond0_2 i)
    (x0 : Vec F S256x2048 .f32) (x1 : Vec F S16x128x512 .bf16) (x2 : Vec F S16x128x128 .bf16) (x3 : Vec F S2048x64 .bf16) (x4 : Vec F S2048x16 .bf16) (x5 : Vec F S4x64x2048 .bf16) (x6 : Vec F S16x2048 .bf16) (xo8 : Vec F S1x16x128x128 .f32) (xo9 : Vec F S1x1x2048 .f32) (xs0 : Vec F S3x2048x2048 .bf16) (fh0 : HbBuf0 (F := F) c hbM0_0) : Vec F S3x2048x2048 .bf16 := xs0

/-! ## What the outputs hold after each point -/

/-- What the three outputs' staging buffers and the weights' scratch hold after the body at position `n`.
    At the first point of a row of 32 the body starts afresh; at the others it adds to what the point before left. -/
def outsAt0 (c : Dev nD) : (n : ℕ) → n < cfg0.N → Vec F S256x2048 .bf16 × Vec F S1x16x128x128 .f32 × Vec F S1x1x2048 .f32 × Vec F S3x2048x2048 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (V c main_v8), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (V c main_v8), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (V c main_v8), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (V c main_v8))
  | n + 1, hn =>
    if h0 : (n + 1) % 32 = 0 then
      if h1 : (n + 1) % 32 = 0 then
        if h2 : 1 ≤ (n + 1) % 32 then
          False.elim (by have hN : n + 1 < 64 := lt_of_lt_of_eq hn (show cfg0.N = 64 from N_0); omega)
        else
          (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (V c main_v8), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (V c main_v8), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (V c main_v8), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (V c main_v8))
      else
        False.elim (by have hN : n + 1 < 64 := lt_of_lt_of_eq hn (show cfg0.N = 64 from N_0); omega)
    else
      if h1 : (n + 1) % 32 = 0 then
        False.elim (by have hN : n + 1 < 64 := lt_of_lt_of_eq hn (show cfg0.N = 64 from N_0); omega)
      else
        if h2 : 1 ≤ (n + 1) % 32 then
          (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2 (V c main_v8), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2 (V c main_v8), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2 (V c main_v8), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt0 c n (Nat.lt_of_succ_lt hn)).2.1 (outsAt0 c n (Nat.lt_of_succ_lt hn)).2.2.1 (outsAt0 c n (Nat.lt_of_succ_lt hn)).2.2.2 (V c main_v8))
        else
          False.elim (by have hN : n + 1 < 64 := lt_of_lt_of_eq hn (show cfg0.N = 64 from N_0); omega)

/-- `outsAt0` at a point of case A: that case's contents. -/
theorem outsAt0_A (c : Dev nD) (t : Fin cfg0.N) (h0 : t.val % 32 = 0) (h1 : t.val % 32 = 0) (h2 : ¬1 ≤ t.val % 32) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (V c main_v8), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (V c main_v8), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (V c main_v8), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (V c main_v8)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 32 = 0) (h1 : ¬t.val % 32 = 0) (h2 : 1 ≤ t.val % 32) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 (V c main_v8), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 (V c main_v8), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 (V c main_v8), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 (V c main_v8)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What the body owns between points besides the windows: before the first point the scratch at anything, afterwards
    the scratch at what the point before left in it; always the second call's staging buffers, the generator register,
    the transfer's semaphore at zero and the weights in HBM. -/
def PhiS (c : Dev nD) : (n : ℕ) → n ≤ cfg0.N → sProp 𝕄
  | 0, _ => Pipeline.ΦD osem0 spec0 H0 V c
  | n + 1, hn => iprop((owns (c : Thread nD τ) scM0_0 fullShare ((outsAt0 V c n hn).2.2.2) ∗ restSt (F := F) c) ∗ (∃ r, prngReg c r) ∗ iprop(semVal ((c : Thread nD τ), SemLoc.dma 14) 0) ∗ iprop(hbPt0 c hbM0_0 (V c main_v8)))

/-- Before the first point: what the call is entered with. -/
theorem PhiS_zero (c : Dev nD) (n : ℕ) (h : n ≤ cfg0.N) (hz : n = 0) : PhiS V c n h = Pipeline.ΦD osem0 spec0 H0 V c := by
  subst hz; rfl

/-- After point `n` (before point `n + 1`): the carried scratch at that point's contents. -/
theorem PhiS_succ (c : Dev nD) (n : ℕ) (hn : n < cfg0.N) :
    PhiS V c (n + 1) hn = iprop((owns (c : Thread nD τ) scM0_0 fullShare ((outsAt0 V c n hn).2.2.2) ∗ restSt (F := F) c) ∗ (∃ r, prngReg c r) ∗ iprop(semVal ((c : Thread nD τ), SemLoc.dma 14) 0) ∗ iprop(hbPt0 c hbM0_0 (V c main_v8))) := rfl

/-- Before a point that is not the first: the carried scratch at what the point before left. -/
theorem PhiS_pos (c : Dev nD) (n : ℕ) (h : n ≤ cfg0.N) (hz : n ≠ 0) :
    PhiS V c n h = iprop((owns (c : Thread nD τ) scM0_0 fullShare ((outsAt0 V c (n - 1) (by omega)).2.2.2) ∗ restSt (F := F) c) ∗ (∃ r, prngReg c r) ∗ iprop(semVal ((c : Thread nD τ), SemLoc.dma 14) 0) ∗ iprop(hbPt0 c hbM0_0 (V c main_v8))) := by
  cases n with
  | zero => exact absurd rfl hz
  | succ n => rfl

/-! ## The pipeline's proof data -/

/-- The proof data of the first call on core `c`: the arrays at their entry contents `V`, the inputs' buffers at
    their blocks after each point, the outputs' at `outsAt0`; nothing owed. -/
def dat0 (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

/-- The arrays of the proof data are the entry contents. -/
theorem A_eq (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window. -/
theorem after0_0 (c : Dev nD) (t : Fin cfg0.N) : (dat0 V c).after 0 t = iblk V c 0 t := by dsimp only [dat0]
/-- The body leaves the second input's block in place. -/
theorem after0_1 (c : Dev nD) (t : Fin cfg0.N) : (dat0 V c).after 1 t = iblk V c 1 t := by dsimp only [dat0]
/-- The body leaves the third input's block in place. -/
theorem after0_2 (c : Dev nD) (t : Fin cfg0.N) : (dat0 V c).after 2 t = iblk V c 2 t := by dsimp only [dat0]
/-- The body leaves the fourth input's block in place. -/
theorem after0_3 (c : Dev nD) (t : Fin cfg0.N) : (dat0 V c).after 3 t = iblk V c 3 t := by dsimp only [dat0]
/-- The body leaves the fifth input's block in place. -/
theorem after0_4 (c : Dev nD) (t : Fin cfg0.N) : (dat0 V c).after 4 t = iblk V c 4 t := by dsimp only [dat0]
/-- The body leaves the sixth input's block in place. -/
theorem after0_5 (c : Dev nD) (t : Fin cfg0.N) : (dat0 V c).after 5 t = iblk V c 5 t := by dsimp only [dat0]
/-- The body leaves the seventh input's block in place. -/
theorem after0_6 (c : Dev nD) (t : Fin cfg0.N) : (dat0 V c).after 6 t = iblk V c 6 t := by dsimp only [dat0]
/-- After a point the buffer of the mixed readings holds what `outsAt0` says. -/
theorem after0_7 (c : Dev nD) (t : Fin cfg0.N) : (dat0 V c).after 7 t = (outsAt0 V c t.val t.isLt).1 := by dsimp only [dat0]
/-- After a point the buffer of the memory's update holds what `outsAt0` says. -/
theorem after0_8 (c : Dev nD) (t : Fin cfg0.N) : (dat0 V c).after 8 t = (outsAt0 V c t.val t.isLt).2.1 := by dsimp only [dat0]
/-- After a point the buffer of the norm's update holds what `outsAt0` says. -/
theorem after0_9 (c : Dev nD) (t : Fin cfg0.N) : (dat0 V c).after 9 t = (outsAt0 V c t.val t.isLt).2.2.1 := by dsimp only [dat0]

/-- Each input's current staging buffer holds its block at every point, fetched there or not (`beforeK_W_of`). -/
theorem before0_0 (c : Dev nD) (t : Fin cfg0.N) (d) : (dat0 V c).before 0 t d = iblk V c 0 t :=
  before0_0_of V (dat0 V c) (A_eq V c 0) (after0_0 V c) t d
/-- The second input's buffer holds its block when the body starts. -/
theorem before0_1 (c : Dev nD) (t : Fin cfg0.N) (d) : (dat0 V c).before 1 t d = iblk V c 1 t :=
  before0_1_of V (dat0 V c) (A_eq V c 1) (after0_1 V c) t d
/-- The third input's buffer holds its block when the body starts. -/
theorem before0_2 (c : Dev nD) (t : Fin cfg0.N) (d) : (dat0 V c).before 2 t d = iblk V c 2 t :=
  before0_2_of V (dat0 V c) (A_eq V c 2) (after0_2 V c) t d
/-- The fourth input's buffer holds its block when the body starts. -/
theorem before0_3 (c : Dev nD) (t : Fin cfg0.N) (d) : (dat0 V c).before 3 t d = iblk V c 3 t :=
  before0_3_of V (dat0 V c) (A_eq V c 3) (after0_3 V c) t d
/-- The fifth input's buffer holds its block when the body starts. -/
theorem before0_4 (c : Dev nD) (t : Fin cfg0.N) (d) : (dat0 V c).before 4 t d = iblk V c 4 t :=
  before0_4_of V (dat0 V c) (A_eq V c 4) (after0_4 V c) t d
/-- The sixth input's buffer holds its block when the body starts. -/
theorem before0_5 (c : Dev nD) (t : Fin cfg0.N) (d) : (dat0 V c).before 5 t d = iblk V c 5 t :=
  before0_5_of V (dat0 V c) (A_eq V c 5) (after0_5 V c) t d
/-- The seventh input's buffer holds its block when the body starts. -/
theorem before0_6 (c : Dev nD) (t : Fin cfg0.N) (d) : (dat0 V c).before 6 t d = iblk V c 6 t :=
  before0_6_of V (dat0 V c) (A_eq V c 6) (after0_6 V c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dat0 V c).after 8 t = (dat0 V c).after 8 ⟨t.val - 1, by omega⟩ := by
  intro t _ hi _
  have hN : t.val < 64 := lt_of_lt_of_eq t.isLt (show cfg0.N = 64 from N_0)
  rw [after0_8, after0_8]
  by_cases h0 : t.val % 32 = 0
  · by_cases h1 : t.val % 32 = 0
    · by_cases h2 : 1 ≤ t.val % 32
      · exfalso; omega
      · rw [liveAt0_8_A t ((hcond0_0 t).mpr h0) ((hcond0_1 t).mpr h1) (fun h => h2 ((hcond0_2 t).mp h))] at hi
        exact absurd hi Bool.false_ne_true
    · exfalso; omega
  · by_cases h1 : t.val % 32 = 0
    · exfalso; omega
    · by_cases h2 : 1 ≤ t.val % 32
      · rw [liveAt0_8_B t (fun h => h0 ((hcond0_0 t).mp h)) (fun h => h1 ((hcond0_1 t).mp h)) ((hcond0_2 t).mpr h2)] at hi
        exact absurd hi Bool.false_ne_true
      · exfalso; omega

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dat0 V c).after 9 t = (dat0 V c).after 9 ⟨t.val - 1, by omega⟩ := by
  intro t _ hi _
  have hN : t.val < 64 := lt_of_lt_of_eq t.isLt (show cfg0.N = 64 from N_0)
  rw [after0_9, after0_9]
  by_cases h0 : t.val % 32 = 0
  · by_cases h1 : t.val % 32 = 0
    · by_cases h2 : 1 ≤ t.val % 32
      · exfalso; omega
      · rw [liveAt0_9_A t ((hcond0_0 t).mpr h0) ((hcond0_1 t).mpr h1) (fun h => h2 ((hcond0_2 t).mp h))] at hi
        exact absurd hi Bool.false_ne_true
    · exfalso; omega
  · by_cases h1 : t.val % 32 = 0
    · exfalso; omega
    · by_cases h2 : 1 ≤ t.val % 32
      · rw [liveAt0_9_B t (fun h => h0 ((hcond0_0 t).mp h)) (fun h => h1 ((hcond0_1 t).mp h)) ((hcond0_2 t).mpr h2)] at hi
        exact absurd hi Bool.false_ne_true
      · exfalso; omega
/-- At a point of case B output 8's current staging buffer holds what the point before left: the buffer is not fresh
    there (`notFresh0_8_B`: stored into since the region's entry or the last write-back, carried through the points that
    leave it idle by `hcarry0_8`; Lib/Pipeline/TableIdle.lean `Dat.before_out_traj`). -/
theorem before0_8_B (c : Dev nD) (t : Fin cfg0.N) (h0 : ¬t.val % 32 = 0) (h1 : ¬t.val % 32 = 0) (h2 : 1 ≤ t.val % 32) (d) :
    (dat0 V c).before 8 t d = (outsAt0 V c (t.val - 1) (Nat.lt_of_le_of_lt (Nat.sub_le _ _) t.isLt)).2.1 := by
  rw [Dat.before_out_traj _ 8 rfl (fun _ _ => rfl) (hcarry0_8 V c) t.val t rfl d,
    if_neg (by rw [notFresh0_8_B t (fun h => h0 ((hcond0_0 t).mp h)) (fun h => h1 ((hcond0_1 t).mp h)) ((hcond0_2 t).mpr h2)]; exact Bool.false_ne_true)]
  dsimp only [dat0]
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 32 = 0) (h1 : ¬t.val % 32 = 0) (h2 : 1 ≤ t.val % 32) (d) :
    (dat0 V c).before 9 t d = (outsAt0 V c (t.val - 1) (Nat.lt_of_le_of_lt (Nat.sub_le _ _) t.isLt)).2.2.1 := by
  rw [Dat.before_out_traj _ 9 rfl (fun _ _ => rfl) (hcarry0_9 V c) t.val t rfl d,
    if_neg (by rw [notFresh0_9_B t (fun h => h0 ((hcond0_0 t).mp h)) (fun h => h1 ((hcond0_1 t).mp h)) ((hcond0_2 t).mpr h2)]; exact Bool.false_ne_true)]
  dsimp only [dat0]

/-! ## The body obligation, at a generic point -/

/-- What the body is called with at point `t`, the windows one by one. -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 6400000 in
/-- The body at any point, by the two cases of its conditionals. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).Φ t.succ = PhiS V c (t.val + 1) t.isLt from rfl, PhiS_succ]
  unfold Dat.owesAt Pipeline.owesWithin
  rw [show (dat0 V c).owed t.castSucc = 0 from rfl, show (dat0 V c).owed t.succ = 0 from rfl]
  have hN : t.val < 64 := lt_of_lt_of_eq t.isLt (show cfg0.N = 64 from N_0)
  by_cases h0 : t.val % 32 = 0
  · by_cases h1 : t.val % 32 = 0
    · by_cases h2 : 1 ≤ t.val % 32
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6 t], after0_6]
        rw [show (dat0 V c).leavesExact 7 t = owns (c : Thread nD τ) (ms0_7 t) fullShare ((dat0 V c).after 7 t) from by
      unfold Dat.leavesExact; rw [liveAt0_7 t], after0_7]
        rw [show (dat0 V c).leavesExact 8 t = owns (c : Thread nD τ) (ms0_8 t) fullShare ((dat0 V c).after 8 t) from by
      unfold Dat.leavesExact; rw [liveAt0_8_A t ((hcond0_0 t).mpr h0) ((hcond0_1 t).mpr h1) (fun h => h2 ((hcond0_2 t).mp h))], after0_8]
        rw [show (dat0 V c).leavesExact 9 t = owns (c : Thread nD τ) (ms0_9 t) fullShare ((dat0 V c).after 9 t) from by
      unfold Dat.leavesExact; rw [liveAt0_9_A t ((hcond0_0 t).mpr h0) ((hcond0_1 t).mpr h1) (fun h => h2 ((hcond0_2 t).mp h))], after0_9]
        by_cases hz : t.val = 0
        · rw [PhiS_castSucc V c t, PhiS_zero V c _ _ hz, PhiD0_eq]
          rw [outsAt0_A V c t h0 h1 h2]
          unfold out0_A_7 out0_A_8 out0_A_9 sout0_A_0; (try dsimp only)
          iintro ⟨⟨⟨HS0, Hr⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (V c main_v8)).2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexact HS0
          isplitl [Hq0]; · iexact Hq0
          isplitl [Hh0]; · iexact Hh0
          isplitl [HW]; · iexact HW
          iintro ⟨H0, H1, H2, H3, H4, H5, H6, ⟨%e7, H7⟩, ⟨%e8, H8⟩, ⟨%e9, H9⟩, ⟨%es0, HS0⟩, Hq0, Hh0, ⟨%W', HW'⟩⟩
          isplitl [HS0 Hr Hg Hq0 Hh0]
          · isplitl [HS0 Hr]
            · isplitr [Hr]
              swap; · iexact Hr
              unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            isplitl [Hg]
            · iexact Hg
            isplitl [Hq0]
            · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _)
        · rw [PhiS_castSucc V c t, PhiS_pos V c _ _ hz]
          rw [outsAt0_A V c t h0 h1 h2]
          unfold out0_A_7 out0_A_8 out0_A_9 sout0_A_0; (try dsimp only)
          iintro ⟨⟨⟨HS0, Hr⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk V c 0 t) (iblk V c 1 t) (iblk V c 2 t) (iblk V c 3 t) (iblk V c 4 t) (iblk V c 5 t) (iblk V c 6 t) (V c main_v8)).2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexists _; iexact HS0
          isplitl [Hq0]; · iexact Hq0
          isplitl [Hh0]; · iexact Hh0
          isplitl [HW]; · iexact HW
          iintro ⟨H0, H1, H2, H3, H4, H5, H6, ⟨%e7, H7⟩, ⟨%e8, H8⟩, ⟨%e9, H9⟩, ⟨%es0, HS0⟩, Hq0, Hh0, ⟨%W', HW'⟩⟩
          isplitl [HS0 Hr Hg Hq0 Hh0]
          · isplitl [HS0 Hr]
            · isplitr [Hr]
              swap; · iexact Hr
              unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _)
            isplitl [Hg]
            · iexact Hg
            isplitl [Hq0]
            · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _)
    · exfalso; omega
  · by_cases h1 : t.val % 32 = 0
    · exfalso; omega
    · by_cases h2 : 1 ≤ t.val % 32
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6 t], after0_6]
        rw [show (dat0 V c).leavesExact 7 t = owns (c : Thread nD τ) (ms0_7 t) fullShare ((dat0 V c).after 7 t) from by
      unfold Dat.leavesExact; rw [liveAt0_7 t], after0_7]
        rw [show (dat0 V c).leavesExact 8 t = owns (c : Thread nD τ) (ms0_8 t) fullShare ((dat0 V c).after 8 t) from by
      unfold Dat.leavesExact; rw [liveAt0_8_B t (fun h => h0 ((hcond0_0 t).mp h)) (fun h => h1 ((hcond0_1 t).mp h)) ((hcond0_2 t).mpr h2)], after0_8]
        rw [show (dat0 V c).leavesExact 9 t = owns (c : Thread nD τ) (ms0_9 t) fullShare ((dat0 V c).after 9 t) from by
      unfold Dat.leavesExact; rw [liveAt0_9_B t (fun h => h0 ((hcond0_0 t).mp h)) (fun h => h1 ((hcond0_1 t).mp h)) ((hcond0_2 t).mpr h2)], after0_9]
        by_cases hz : t.val = 0
        · exfalso; have hN : t.val < 64 := lt_of_lt_of_eq t.isLt (show cfg0.N = 64 from N_0); omega
        · rw [PhiS_castSucc V c t, PhiS_pos V c _ _ hz]
          rw [outsAt0_B V c t h0 h1 h2]
          simp only [before0_8_B V c t h0 h1 h2, before0_9_B V c t h0 h1 h2]
          unfold out0_B_7 out0_B_8 out0_B_9 sout0_B_0; (try dsimp only)
          iintro ⟨⟨⟨HS0, Hr⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ (fun h => h0 ((hcond0_0 t).mp h)) (fun h => h1 ((hcond0_1 t).mp h)) ((hcond0_2 t).mpr h2) (iblk V c 0 t) (iblk V c 1 t) (iblk V c 2 t) (iblk V c 3 t) (iblk V c 4 t) (iblk V c 5 t) (iblk V c 6 t) _ _ _ (V c main_v8)).2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexact H8
          isplitl [H9]; · iexact H9
          isplitl [HS0]; · iexact HS0
          isplitl [Hq0]; · iexact Hq0
          isplitl [Hh0]; · iexact Hh0
          isplitl [HW]; · iexact HW
          iintro ⟨H0, H1, H2, H3, H4, H5, H6, ⟨%e7, H7⟩, ⟨%e8, H8⟩, ⟨%e9, H9⟩, HS0, Hq0, Hh0, ⟨%W', HW'⟩⟩
          isplitl [HS0 Hr Hg Hq0 Hh0]
          · isplitl [HS0 Hr]
            · isplitl [HS0]
              · iexact HS0
              iexact Hr
            isplitl [Hg]
            · iexact Hg
            isplitl [Hq0]
            · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

/-- The resources at the region's start are the invariant before the first point. -/
theorem hin (c : Dev nD) : Pipeline.ΦD osem0 spec0 H0 V c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives those resources back: the scratch's contents are forgotten. -/
theorem Phi_out (c : Dev nD) (t : Fin (cfg0.N + 1)) (ht : t.val ≠ 0) : (dat0 V c).Φ t ⊢ Pipeline.ΦD osem0 spec0 H0 V c := by
  rw [show (dat0 V c).Φ t = PhiS V c t.val (Nat.le_of_lt_succ t.isLt) from rfl, PhiS_pos V c _ _ ht, PhiD0_eq]
  iintro ⟨⟨HS0, Hr⟩, Hg, Hq0, Hh0⟩
  isplitl [HS0 Hr]
  · isplitl [HS0]
    · iexists _; iexact HS0
    iexact Hr
  isplitl [Hg]; · iexact Hg
  isplitl [Hq0]
  · iexact Hq0
  iexact Hh0

/-- The same after the last point. -/
theorem hout (c : Dev nD) : (dat0 V c).Φ (Fin.last cfg0.N) ⊢ Pipeline.ΦD osem0 spec0 H0 V c :=
  Phi_out V c _ (by rw [Fin.val_last]; have : cfg0.N = 64 := N_0; omega)

end Cert.KernelIdeal.Main

end
-- ==== Proof.OProj.lean ====
module

public import proofs.«01_k».proof.Proof.Gen.KernelIdeal.Skeleton
public import proofs.«01_k».proof.Proof.Gen.KernelIdeal.Points
public import proofs.«01_k».proof.Proof.Gen.KernelIdeal.Regions

public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle is looked up coordinate by coordinate, along long axes
set_option maxRecDepth 16384

noncomputable section

namespace Cert.KernelIdeal.OProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-! ## The windows' blocks -/

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole of a block of 1024 rows. -/
abbrev r1_0 : Rect S1024x2048 := Rect.unit (s := S1024x2048) ![0, 0] S1024x2048.size inb_S1024x2048_S1024x2048_0_0
/-- The whole of the output weights. -/
abbrev r1_1 : Rect S2048x2048 := Rect.unit (s := S2048x2048) ![0, 0] S2048x2048.size inb_S2048x2048_S2048x2048_0_0

/-! ## What the body leaves in each output window's buffer -/

/-- What the body leaves in the output's buffer: the product of the two blocks, stored whole. -/
def out1_2 (x0 : Vec F S1024x2048 .bf16) (x1 : Vec F S2048x2048 .bf16) : Vec F S1024x2048 .f32 :=
  View.canon [⟨r1_0, k1_pay1 (View.ld x0 r1_0) (View.ld x1 r1_1)⟩]

/-- The one store covers the block. -/
theorem cover1_2 (p0 : Vec F S1024x2048 .f32) (y : S1024x2048.Idx) :
    ∃ pc ∈ ([⟨r1_0, p0⟩] : List (View.Piece (Elt F) S1024x2048 .f32)), y ∈ pc.1.set :=
  View.cover_of_tiled [⟨r1_0, p0⟩] S1024x2048.size (by rfl) y

/-! ## The body's triple -/

set_option maxHeartbeats 1000000 in
/-- The body on whole buffers: the inputs are read and kept, the output ends at their product. -/
theorem sound_kernel (c : Dev nD) (E : Set ℕ) (i : grid1.Coords) (arg1 : Memref sig .tc .vmem S1024x2048 .bf16) (harg1 : arg1.IsWhole) (arg2 : Memref sig .tc .vmem S2048x2048 .bf16) (harg2 : arg2.IsWhole) (arg3 : Memref sig .tc .vmem S1024x2048 .f32) (harg3 : arg3.IsWhole)
    (x0 : Vec F S1024x2048 .bf16) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_infini_attention_oproj i arg1 harg1 arg2 harg2 arg3 harg3) K := by
  simp only [cc1_infini_attention_oproj_eq_skeleton]; unfold cc1_infini_attention_oproj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second call on core `c`: its arrays at their entry contents `V`, the inputs' buffers at
    their blocks, the output's at the blocks' product; nothing owed. -/
def dat1 (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => out1_2 (iblk V c 0 t) (iblk V c 1 t)
  Φ _ := Pipeline.ΦA spec1 c
  q _ := fullShare
  owed _ := 0

/-- The arrays of the proof data are the entry contents. -/
theorem A_eq (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk V c 0 t := by dsimp only [dat1]
/-- The body leaves the weights in place. -/
theorem after1_1 (c : Dev nD) (t : Fin cfg1.N) : (dat1 V c).after 1 t = iblk V c 1 t := by dsimp only [dat1]
/-- After a point the output's buffer holds the product of the two blocks. -/
theorem after1_2 (c : Dev nD) (t : Fin cfg1.N) : (dat1 V c).after 2 t = out1_2 (iblk V c 0 t) (iblk V c 1 t) := by dsimp only [dat1]

/-- What the inputs' buffers hold when the body starts. -/
theorem before1_0 (c : Dev nD) (t : Fin cfg1.N) (d) : (dat1 V c).before 0 t d = iblk V c 0 t :=
  before1_0_of V (dat1 V c) (A_eq V c 0) (after1_0 V c) t d
/-- The second input's buffer holds the weights when the body starts. -/
theorem before1_1 (c : Dev nD) (t : Fin cfg1.N) (d) : (dat1 V c).before 1 t d = iblk V c 1 t :=
  before1_1_of V (dat1 V c) (A_eq V c 1) (after1_1 V c) t d

/-! ## The body obligation, at a generic point -/

/-- What the body is called with at point `t`, the windows one by one. -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

end Cert.KernelIdeal.OProj

end
-- ==== Proof.Run.lean ====
module

public import proofs.«01_k».proof.Proof.MainFrame
public import proofs.«01_k».proof.Proof.OProj
public import Idealize.ShloMosaic.Lib.Pipeline.RegionArraysD

/-!
  The run of the whole program: the host operations before the first call, the two calls one after the other, the host
  operations after them. Each call is one record (`reg0`, `reg1`) that says what it is entered with and what it leaves.
  `run_main` says what the eight arguments and the three results hold at the end.
-/

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold around the calls -/

/-- The buffers when the first call is entered. -/
abbrev E1 (c : Dev nD) (b : Ref sig .tc) : Buf (Elt F) ((c : Thread nD τ).loc b) := V1 m c b

/-- The buffers after the first call: its three outputs at what the call leaves, the rest as before. -/
def A2 (c : Dev nD) : Valuation τ sig (Elt F) :=
  Function.update (Function.update (Function.update (V1 m c)
    main_v80_0 ((Main.dat0 (E1 m) c).arrAt 7 cfg0.N))
    main_v80_1 ((Main.dat0 (E1 m) c).arrAt 8 cfg0.N))
    main_v80_2 ((Main.dat0 (E1 m) c).arrAt 9 cfg0.N)

/-- The buffers when the second call is entered. -/
abbrev E2 (c : Dev nD) (b : Ref sig .tc) : Buf (Elt F) ((c : Thread nD τ).loc b) := A2 m c b

/-- The buffers after the second call. -/
def A3 (c : Dev nD) : Valuation τ sig (Elt F) :=
  Function.update (A2 m c) main_v81 ((OProj.dat1 (E2 m) c).arrAt 2 cfg1.N)

/-- What each call leaves in the buffers it may change. -/
def outs : Outs (F := F) := fun k r c => if k = 2 then A2 m c r else A3 m c r

/-- The host's account of the buffers after the first call is `A2`. -/
theorem V2_eq (c : Dev nD) : V2 m (outs m) c = A2 m c := by
  have e : ∀ r c, outs m 2 r c = A2 m c r := fun r c => if_pos rfl
  unfold V2; rw [e, e, e, e]
  funext b
  by_cases h8 : b = Proc.devRef .tc main_v8
  · subst h8; rw [Function.update_self]
  rw [Function.update_of_ne h8]
  by_cases h2 : b = Proc.devRef .tc main_v80_2
  · subst h2; rw [Function.update_self]
  rw [Function.update_of_ne h2]
  by_cases h1 : b = Proc.devRef .tc main_v80_1
  · subst h1; rw [Function.update_self]
  rw [Function.update_of_ne h1]
  by_cases h0 : b = Proc.devRef .tc main_v80_0
  · subst h0; rw [Function.update_self]
  rw [Function.update_of_ne h0]
  unfold A2
  rw [Function.update_of_ne h2, Function.update_of_ne h1, Function.update_of_ne h0]

/-- The host's account of the buffers after the second call is `A3`. -/
theorem V3_eq (c : Dev nD) : V3 m (outs m) c = A3 m c := by
  unfold V3; rw [V2_eq, show outs m 3 main_v81 c = A3 m c main_v81 from if_neg (by decide)]
  unfold A3; rw [Function.update_self]

/-- The first call changes no buffer but its three outputs. -/
theorem A2_of (c : Dev nD) (r : Ref sig .tc) (h0 : r ≠ main_v80_0) (h1 : r ≠ main_v80_1) (h2 : r ≠ main_v80_2) :
    A2 m c r = V1 m c r := by
  unfold A2
  rw [Function.update_of_ne (StableHlo.devRef_ne_of_ne h2), Function.update_of_ne (StableHlo.devRef_ne_of_ne h1),
    Function.update_of_ne (StableHlo.devRef_ne_of_ne h0)]

/-- After the first call its first output holds the mixed readings. -/
theorem A2_0 (c : Dev nD) : A2 m c main_v80_0 = (Main.dat0 (E1 m) c).arrAt 7 cfg0.N := by
  unfold A2
  rw [Function.update_of_ne (StableHlo.devRef_ne_of_ne (by decide)), Function.update_of_ne (StableHlo.devRef_ne_of_ne (by decide)),
    Function.update_self]
/-- After the first call its second output holds the two halves of the memory's update. -/
theorem A2_1 (c : Dev nD) : A2 m c main_v80_1 = (Main.dat0 (E1 m) c).arrAt 8 cfg0.N := by
  unfold A2
  rw [Function.update_of_ne (StableHlo.devRef_ne_of_ne (by decide)), Function.update_self]
/-- After the first call its third output holds the two halves of the norm's update. -/
theorem A2_2 (c : Dev nD) : A2 m c main_v80_2 = (Main.dat0 (E1 m) c).arrAt 9 cfg0.N := by
  unfold A2; rw [Function.update_self]

/-- The first call's arrays at its end, window by window. -/
theorem A2_arr (c : Dev nD) (w : Fin 10) : (Main.dat0 (E1 m) c).arrAt w cfg0.N = A2 m c (arrRef spec0 w) :=
  have hin : ∀ w : Fin 10, (cfg0.win w).isOut = false → arrRef spec0 w ≠ main_v80_0 → arrRef spec0 w ≠ main_v80_1 → arrRef spec0 w ≠ main_v80_2 →
      (Main.dat0 (E1 m) c).arrAt w cfg0.N = A2 m c (arrRef spec0 w) := fun w hw h0 h1 h2 =>
    ((Main.dat0 (E1 m) c).arrAt_in w hw _).trans ((Main.A_eq (E1 m) c w).trans (A2_of m c _ h0 h1 h2).symm)
  match w with
  | 0 => hin 0 rfl (by decide) (by decide) (by decide)
  | 1 => hin 1 rfl (by decide) (by decide) (by decide)
  | 2 => hin 2 rfl (by decide) (by decide) (by decide)
  | 3 => hin 3 rfl (by decide) (by decide) (by decide)
  | 4 => hin 4 rfl (by decide) (by decide) (by decide)
  | 5 => hin 5 rfl (by decide) (by decide) (by decide)
  | 6 => hin 6 rfl (by decide) (by decide) (by decide)
  | 7 => (A2_0 m c).symm
  | 8 => (A2_1 m c).symm
  | 9 => (A2_2 m c).symm

/-- The second call changes no buffer but its output. -/
theorem A3_of (c : Dev nD) (r : Ref sig .tc) (h : r ≠ main_v81) : A3 m c r = A2 m c r := by
  unfold A3; rw [Function.update_of_ne (StableHlo.devRef_ne_of_ne h)]
/-- After the second call its output holds the projected rows. -/
theorem A3_1 (c : Dev nD) : A3 m c main_v81 = (OProj.dat1 (E2 m) c).arrAt 2 cfg1.N := by
  unfold A3; rw [Function.update_self]

/-- The second call's arrays at its end, window by window. -/
theorem A3_arr (c : Dev nD) (w : Fin 3) : (OProj.dat1 (E2 m) c).arrAt w cfg1.N = A3 m c (arrRef spec1 w) :=
  have hin : ∀ w : Fin 3, (cfg1.win w).isOut = false → arrRef spec1 w ≠ main_v81 →
      (OProj.dat1 (E2 m) c).arrAt w cfg1.N = A3 m c (arrRef spec1 w) := fun w hw h =>
    ((OProj.dat1 (E2 m) c).arrAt_in w hw _).trans ((OProj.A_eq (E2 m) c w).trans (A3_of m c _ h).symm)
  match w with
  | 0 => hin 0 rfl (by decide)
  | 1 => hin 1 rfl (by decide)
  | 2 => (A3_1 m c).symm

/-! ## The two calls -/

/-- The proof data of the two calls. -/
def pdats : (p : Fin 2) → (c : Dev nD) → Dat τ (Elt F) Unit ℕ (Pipeline.UD sig nD τ) ℕ (cfgs p) c
  | 0 => Main.dat0 (E1 m)
  | 1 => OProj.dat1 (E2 m)

/-- No core waits for another: one level, at the TensorCore's counters. -/
abbrev L : GSem nD τ sig → Finset Unit := fun g => if g.1.2 = .tc then {()} else ∅
/-- The level of every counter is zero. -/
abbrev lv : GSem nD τ sig → Unit → ℕ := fun _ _ => 0

/-- What rides beside the buffers: the generator register, and that nothing is owed. -/
abbrev Rest (c : Dev nD) : sProp 𝕄 :=
  iprop((∃ r, prngReg c r) ∗ ∃ W, owes (c : Thread nD τ) (0 : CellTallies nD τ sig Unit) W)

/-- With one level nothing has to be ordered. -/
theorem cut (p : Fin 2) : LevelCut (pcfgs (F := F)) adm () L lv p (fun _ => 0) (fun _ => 0) where
  hι c w s := by simp [L]
  hιb c w s := le_rfl
  hD c g i h := absurd h (by simp)

/-- The buffers the first call does not stage. -/
abbrev S0 : Finset (DevRef τ sig) := ucRefs τ sig \ arrRefs spec0
/-- The buffers the second call does not stage. -/
abbrev S1 : Finset (DevRef τ sig) := ucRefs τ sig \ arrRefs spec1

set_option backward.isDefEq.respectTransparency.types false in
/-- The first call. -/
def reg0 : RegionSeg (pcfgs (F := F)) adm (pdats m) () defs₀ Variants.none L lv 0 :=
  RegionSeg.ofHeldDH (pcfgs (F := F)) adm (pdats m) () defs₀ Variants.none L lv 0 (fun _ => 0) () Main.osem0 Main.ownSemFacts0
    Main.H0 S0 (by decide) launch0.toP rfl
    (fun c => (Main.body_obligation (E1 m) c).loose) (fun _ _ => rfl) (fun _ => rfl)
    (fun c => (Main.dat0 (E1 m) c).share_full fun _ => rfl)
    (fun c => (show (levAts L lv : sProp 𝕄) ⊢ BI.emp from by iintro -; iempintro).trans (Transfers.MayWaits.zero _ _))
    (V1 m) (A2 m)
    (fun c => by
      refine BI.BIBase.Entails.trans ?_ (Main.hin (E1 m) c)
      unfold Pipeline.ΦD
      iintro ⟨Hr, Hp, Hs, HH, -⟩
      isplitl [Hr]; · iexact Hr
      isplitl [Hp]; · iexact Hp
      isplitl [Hs] <;> iassumption)
    (fun c => Main.hout (E1 m) c)
    (fun _ => 0) (cut 0) (fun _ => iprop(emp)) (fun c w => Main.A_eq (E1 m) c w) (fun c w => A2_arr m c w)

set_option backward.isDefEq.respectTransparency.types false in
/-- The second call. -/
def reg1 : RegionSeg (pcfgs (F := F)) adm (pdats m) () defs₀ Variants.none L lv 1 :=
  RegionSeg.ofHeld (pcfgs (F := F)) adm (pdats m) () defs₀ Variants.none L lv 1 (fun _ => 0)
    (fun c => iprop(∃ r, prngReg c r)) (fun c => iprop(∃ r, prngReg c r)) launch1.toP rfl
    (fun c => (OProj.body_obligation (E2 m) c).loose) (fun _ _ => rfl) (fun _ => rfl)
    (fun c => (OProj.dat1 (E2 m) c).share_full fun _ => rfl)
    (fun c => .rfl) (fun c => .rfl)
    (fun _ => 0) (cut 1) (fun c => StableHlo.held (c : Thread nD τ) S1 (A2 m c))
    (A2 m) (A3 m) (fun c w => OProj.A_eq (E2 m) c w) (fun c w => A3_arr m c w)

/-! ## The states between the items of the program -/

/-- What holds after the first host operations is what the first call is entered with. -/
theorem pre0 (c : Dev nD) : iprop(StableHlo.held (c : Thread nD τ) (ucRefs τ sig) (V1 m c) ∗ Rest c) ⊢ (reg0 m).pre c := by
  show _ ⊢ iprop(StableHlo.held (c.tc : Thread nD τ) (arrRefs spec0) (V1 m c) ∗ (∃ r, prngReg c r)
      ∗ (StableHlo.held (c.tc : Thread nD τ) S0 (V1 m c) ∗ emp) ∗ ∃ Wd, owes (c : Thread nD τ) 0 Wd)
  rw [StableHlo.held_sub_split (c.tc : Thread nD τ) (arrRefs_sub_ucRefs spec0 (by decide)) (V1 m c)]
  iintro ⟨⟨Ha, Hs⟩, Hp, HO⟩
  isplitl [Ha]; · iexact Ha
  isplitl [Hp]; · iexact Hp
  isplitl [Hs]
  · isplitl [Hs]; · iexact Hs
    iempintro
  iexact HO

/-- What the first call leaves, as one account of all buffers. -/
theorem post0 (c : Dev nD) : (reg0 m).post c ⊢ iprop(StableHlo.held (c : Thread nD τ) (ucRefs τ sig) (A2 m c) ∗ Rest c) := by
  show iprop(StableHlo.held (c.tc : Thread nD τ) (arrRefs spec0) (A2 m c) ∗ (∃ r, prngReg c r)
      ∗ (StableHlo.held (c.tc : Thread nD τ) S0 (V1 m c) ∗ emp) ∗ ∃ Wd, owes (c : Thread nD τ) 0 Wd) ⊢ _
  rw [StableHlo.held_sub_split (c.tc : Thread nD τ) (arrRefs_sub_ucRefs spec0 (by decide)) (A2 m c),
    StableHlo.held_congr (c.tc : Thread nD τ) (S := ucRefs τ sig \ arrRefs spec0) (V := A2 m c) (V' := V1 m c) fun b hb => by
      have hn := (Finset.mem_sdiff.mp hb).2
      have h : ∀ w : Fin 10, b ≠ Proc.devRef .tc (arrRef spec0 w) := fun w e =>
        hn (Finset.mem_map.mpr ⟨arrRef spec0 w, Finset.mem_image_of_mem _ (Finset.mem_univ w), e.symm⟩)
      unfold A2
      rw [Function.update_of_ne (h 9), Function.update_of_ne (h 8), Function.update_of_ne (h 7)]]
  iintro ⟨Ha, Hp, ⟨Hs, -⟩, HO⟩
  isplitl [Ha Hs]
  · isplitl [Ha] <;> iassumption
  isplitl [Hp] <;> iassumption

/-- What the first call leaves is what the second call is entered with. -/
theorem pre1 (c : Dev nD) : iprop(StableHlo.held (c : Thread nD τ) (ucRefs τ sig) (A2 m c) ∗ Rest c) ⊢ (reg1 m).pre c := by
  show _ ⊢ iprop(StableHlo.held (c.tc : Thread nD τ) (arrRefs spec1) (A2 m c) ∗ (∃ r, prngReg c r)
      ∗ StableHlo.held (c.tc : Thread nD τ) S1 (A2 m c) ∗ ∃ Wd, owes (c : Thread nD τ) 0 Wd)
  rw [StableHlo.held_sub_split (c.tc : Thread nD τ) (arrRefs_sub_ucRefs spec1 (by decide)) (A2 m c)]
  iintro ⟨⟨Ha, Hs⟩, Hp, HO⟩
  isplitl [Ha]; · iexact Ha
  isplitl [Hp]; · iexact Hp
  isplitl [Hs] <;> iassumption

/-- What the second call leaves, as one account of all buffers. -/
theorem post1 (c : Dev nD) : (reg1 m).post c ⊢ iprop(StableHlo.held (c : Thread nD τ) (ucRefs τ sig) (A3 m c) ∗ Rest c) := by
  show iprop(StableHlo.held (c.tc : Thread nD τ) (arrRefs spec1) (A3 m c) ∗ (∃ r, prngReg c r)
      ∗ StableHlo.held (c.tc : Thread nD τ) S1 (A2 m c) ∗ ∃ Wd, owes (c : Thread nD τ) 0 Wd) ⊢ _
  rw [StableHlo.held_sub_split (c.tc : Thread nD τ) (arrRefs_sub_ucRefs spec1 (by decide)) (A3 m c),
    StableHlo.held_congr (c.tc : Thread nD τ) (S := ucRefs τ sig \ arrRefs spec1) (V := A3 m c) (V' := A2 m c) fun b hb => by
      have hn := (Finset.mem_sdiff.mp hb).2
      have h : b ≠ Proc.devRef .tc (arrRef spec1 2) := fun e =>
        hn (Finset.mem_map.mpr ⟨arrRef spec1 2, Finset.mem_image_of_mem _ (Finset.mem_univ _), e.symm⟩)
      unfold A3
      rw [Function.update_of_ne h]]
  iintro ⟨Ha, Hp, Hs, HO⟩
  isplitl [Ha Hs]
  · isplitl [Ha] <;> iassumption
  isplitl [Hp] <;> iassumption

/-! ## The run -/

/-- What the launch starts from in the ghost state: the two pipelines' cells; no transfer of the body's own yet. -/
def u₀ : Pipeline.UD sig nD τ := (initOf (cells cfgs cellOf_inj) (launchToks cfgs cellOf_inj), 1)

/-- The buffers after the last host operation. -/
abbrev AEnd (c : Dev nD) : Valuation τ sig (Elt F) := V4 m (outs m) c

set_option backward.isDefEq.respectTransparency.types false in
/-- From any memory with zero counters every weakly fair execution of the program ends, every buffer outside the calls'
    own scope holds what `AEnd` says, and every semaphore counter is at zero. -/
theorem run_main : θ_run defs (onTc (τ := τ) (main (F := F))) ⟨m, fun _ => 0, ρ⟩ (fun r =>
    (∀ c : Dev nD, ∀ b ∈ ucRefs τ sig, r.2.mem (c, b) = AEnd m c b) ∧ r.2.sem = fun _ => 0) := by
  refine Pipeline.θ_run_regions_kit_dev_sems (pcfgs (F := F)) adm (pdats m) () cellOf_inj (embL : Emb (URounds (GSem nD τ sig) Unit) 𝕄)
    defs₀ Variants.none L lv m ρ main
    (segs m (outs m) Variants.none L lv (fun _ => Rest) () (pdats m) (reg0 m) (reg1 m))
    (fun c Q => by
      rewrite [main_chain c, Seg.run_eq_chain,
        show (segs m (outs m) Variants.none L lv (fun _ => Rest) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (fun _ => 0) (fun g h => if_neg h) (fun _ => iprop(emp)) u₀ ?_
    (T₀ := fun c => iprop(StableHlo.held (c : Thread nD τ) (ucRefs τ sig) (V0 m c) ∗ Rest c))
    (Tₙ := fun c => StableHlo.held (c : Thread nD τ) (ucRefs τ sig) (AEnd m c))
    (hch := fun c => ⟨.rfl, pre0 m c, (post0 m c).trans (pre1 m c), (post1 m c).trans ?_, sep_mono .rfl ?_⟩)
    (hinit := ?_) (QY := fun c s => ∀ b ∈ ucRefs τ sig, s.mem (c, b) = AEnd m c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · rw [← V3_eq]; exact .rfl
  · iintro ⟨-, HO⟩; iexact HO
  · refine Pipeline.initEach L lv fun c => ?_
    rw [show unscopedBufs c (fun b => m ((c : Thread nD τ).loc b)) = StableHlo.held (c : Thread nD τ) (ucRefs τ sig) (V0 m c) from
      Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (ucRefs τ sig) (fun b => ((c : Thread nD τ).1, b)) (AEnd m c) s') $$ [Hh HSI]
    · isplitl [Hh] <;> iassumption
    icases Hr with ⟨%h, HSI⟩
    imodintro
    isplitr
    · ipureintro; exact h
    iexact HSI

/-- A buffer outside the calls' own scope is among those that the run accounts for. -/
theorem mem_uc (r : Ref sig .tc) (h : r.isScoped = false) : Proc.devRef .tc r ∈ ucRefs τ sig :=
  Finset.mem_filter.mpr ⟨StableHlo.devRef_mem_tcRefs r, fun h' => Bool.false_ne_true (h.symm.trans h')⟩

/-- The arguments end as they were at the launch. -/
theorem args_kept {s : MemSt nD τ sig (Elt F)} (c : Dev nD) (h : ∀ b ∈ ucRefs τ sig, s.mem (c, b) = AEnd m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) :=
  ⟨(h _ (mem_uc main_arg0 rfl)).trans (V4_main_arg0 m (outs m) c),
   (h _ (mem_uc main_arg1 rfl)).trans (V4_main_arg1 m (outs m) c),
   (h _ (mem_uc main_arg2 rfl)).trans (V4_main_arg2 m (outs m) c),
   (h _ (mem_uc main_arg3 rfl)).trans (V4_main_arg3 m (outs m) c),
   (h _ (mem_uc main_arg4 rfl)).trans (V4_main_arg4 m (outs m) c),
   (h _ (mem_uc main_arg5 rfl)).trans (V4_main_arg5 m (outs m) c),
   (h _ (mem_uc main_arg6 rfl)).trans (V4_main_arg6 m (outs m) c),
   (h _ (mem_uc main_arg7 rfl)).trans (V4_main_arg7 m (outs m) c)⟩

end Cert.KernelIdeal.Launch

end
-- ==== Proof.Frames.lean ====
module

public import proofs.«01_k».proof.Defs
public import proofs.«01_k».proof.Proof.Run
public import proofs.«01_k».proof.Proof.Gen.Kernel.Regions

/-! The two printed kernels run and leave their arguments unchanged. -/

@[expose] public section

set_option maxRecDepth 65536

noncomputable section

namespace Cert.Proof

open Idealize.ShloMosaic Idealize.SL.Sem

open Cert.KernelIdeal in
/-- The claim about the printed kernel, spelled with the second printing's names: the two print the same program. -/
def kept (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- Over any floats the program ends, with its arguments as they were and every semaphore counter at zero. -/
theorem kept_all (F : FTy → Type) [FloatOps F] : kept F := fun m ρ _ =>
  (θ_run _ _ _).mono (fun r h => ⟨fun c => Cert.KernelIdeal.Launch.args_kept m c (h.1 c), h.2⟩)
    (Cert.KernelIdeal.Launch.run_main m ρ)

/-- The two programs are printed alike, so the claims about them are the same claim. -/
theorem Kernel_same : @Cert.quiescent_Kernel Cert.Kernel.Gen.facts = kept Bits := by sl_kernel_rfl

/-- The kernel on bit patterns runs and leaves its arguments as they were. -/
theorem frame_Kernel : @Cert.quiescent_Kernel Cert.Kernel.Gen.facts := Kernel_same ▸ kept_all Bits

/-- The kernel on extended reals runs and leaves its arguments as they were. -/
theorem frame_KernelIdeal : @Cert.quiescent_KernelIdeal Cert.KernelIdeal.Gen.facts := fun m ρ _ => kept_all Ideal m ρ trivial

end Cert.Proof

end
-- ==== Proof.Block.lean ====
module

public import proofs.«01_k».proof.Proof.Gen.KernelIdeal.Skeleton
public import Idealize.ShloMosaic.Lib.Pipeline.ValueKit

/-!
  What the first call's body computes from one block of 256 rows, written as plain sums over the extended reals, and the
  statement, value by value, that the printed operations compute exactly that.

  `x` is the block of rows, `W` the three projections (queries, keys, values) stacked, `mc` the four memories of every
  head side by side (already scaled by their weights), `mb` the first memory, `nq` and `nk` the block-diagonal tables of
  normalizers, `eq` and `e16` the 0/1 tables that spread one number per head over the head's 128 columns.
-/

@[expose] public section

set_option maxRecDepth 16384

noncomputable section

namespace Cert.KernelIdeal.Block

open Cert.KernelIdeal Cert.KernelIdeal.Gen
open Idealize.ShloMosaic Idealize.ShloMosaic.TcCoe Idealize.ShloMosaic.Pointwise

/-- The column `128 h + d` of head `h`. -/
def col (h : Fin 16) (d : Fin 128) : Fin 2048 := ⟨128 * h.val + d.val, by omega⟩

/-- The head a column belongs to. -/
def hd (j : Fin 2048) : Fin 16 := ⟨j.val / 128, by omega⟩

/-- A column's place within its head. -/
def pl (j : Fin 2048) : Fin 128 := ⟨j.val % 128, by omega⟩

/-- The least normalizer that is divided by. -/
abbrev eps : EReal := Ideal.ofBits .f32 0x358637BD#32

/-- The positive feature of a number: `z + 1` above zero, `exp z` at or below. -/
def feat (z : EReal) : EReal := Scalar.select (Ideal.cmp .ogt z 0) (z + 1) (Ideal.exp z)

variable (x : Vec Ideal S256x2048 .f32) (W : Vec Ideal S3x2048x2048 .bf16)

/-- Projection `k` of row `r`, column `j`. -/
def proj (k : Fin 3) (r : Fin 256) (j : Fin 2048) : EReal := ∑ i : Fin 2048, x (ix2 r i) * W (ix3 k i j)

/-- The queries' features. -/
def sq (r : Fin 256) (j : Fin 2048) : EReal := feat (proj x W 0 r j)

/-- The keys' features. -/
def sk (r : Fin 256) (j : Fin 2048) : EReal := feat (proj x W 1 r j)

/-- The value projections. -/
def vp (r : Fin 256) (j : Fin 2048) : EReal := proj x W 2 r j

variable (mc : Vec Ideal S16x128x512 .bf16) (mb : Vec Ideal S16x128x128 .bf16) (nq : Vec Ideal S2048x64 .bf16)
  (nk : Vec Ideal S2048x16 .bf16) (eq : Vec Ideal S4x64x2048 .bf16) (e16 : Vec Ideal S16x2048 .bf16)

/-- One over the normalizer of column `n` of the table, for row `r`. -/
def invq (r : Fin 256) (n : Fin 64) : EReal := Ideal.div 1 (max (∑ i : Fin 2048, sq x W r i * nq (ix2 i n)) eps)

/-- The inverse normalizers of memory `n`, spread over the columns. -/
def ie (n : Fin 4) (r : Fin 256) (j : Fin 2048) : EReal := ∑ k : Fin 64, invq x W nq r k * eq (ix3 n k j)

/-- Place `d` of memory `n` in the row of four. -/
def bank (n : Fin 4) (d : Fin 128) : Fin 512 := ⟨128 * n.val + d.val, by omega⟩

/-- What head `h` reads at place `k` of its four memories. -/
def uq (h : Fin 16) (r : Fin 256) (k : Fin 512) : EReal := ∑ d : Fin 128, sq x W r (col h d) * mc (ix3 h d k)

/-- The four memories' readings at column `j`, each over its normalizer, summed. -/
def comb (r : Fin 256) (j : Fin 2048) : EReal :=
  uq x W mc (hd j) r (bank 0 (pl j)) * ie x W nq eq 0 r j + uq x W mc (hd j) r (bank 1 (pl j)) * ie x W nq eq 1 r j
    + uq x W mc (hd j) r (bank 2 (pl j)) * ie x W nq eq 2 r j + uq x W mc (hd j) r (bank 3 (pl j)) * ie x W nq eq 3 r j

/-- One over the keys' normalizer of head `h`, for row `r`. -/
def invk (r : Fin 256) (h : Fin 16) : EReal := Ideal.div 1 (max (∑ i : Fin 2048, sk x W r i * nk (ix2 i h)) eps)

/-- The keys' inverse normalizers, spread over the columns. -/
def ik (r : Fin 256) (j : Fin 2048) : EReal := ∑ k : Fin 16, invk x W nk r k * e16 (ix2 k j)

/-- What the keys read from the first memory at column `j`. -/
def rt (r : Fin 256) (j : Fin 2048) : EReal := ∑ d : Fin 128, sk x W r (col (hd j) d) * mb (ix3 (hd j) d (pl j))

/-- What is left of the values once the normalized reading is taken off. -/
def dv (r : Fin 256) (j : Fin 2048) : EReal := vp x W r j - rt x W mb r j * ik x W nk e16 r j

/-- The block's share of head `h`'s new memory. -/
def dk (h : Fin 16) (d e : Fin 128) : EReal := ∑ r : Fin 256, sk x W r (col h d) * dv x W mb nk e16 r (col h e)

/-- The block's share of the new normalizers. -/
def ns (j : Fin 2048) : EReal := ∑ r : Fin 256, sk x W r j

/-- The part of the stacked weights that the body reads as projection `k`. -/
abbrev wpart (k : ℕ) (hk : ∀ a, (![k, 0, 0] : Fin 3 → ℕ) a + (![1, 2048, 2048] : Fin 3 → ℕ) a ≤ S3x2048x2048.size a) : Vec Ideal S1x2048x2048 .bf16 :=
  View.ld W (Rect.unit (s := S3x2048x2048) ![k, 0, 0] ![1, 2048, 2048] hk)

/-- The printed query features. -/
theorem pay42_apply (h) (r : Fin 256) (j : Fin 2048) : k0_pay42 x (wpart W 0 h) (ix2 r j) = sq x W r j := by
  pointwise [k0_pay42, k0_pay39, wpart, feat, sq, proj]

/-- The printed key projection. -/
theorem pay40_apply (h) (r : Fin 256) (j : Fin 2048) : k0_pay40 x (wpart W 1 h) (ix2 r j) = proj x W 1 r j := by
  pointwise [k0_pay40, k0_pay39, wpart, proj]

/-- The printed value projection. -/
theorem pay41_apply (h) (r : Fin 256) (j : Fin 2048) : k0_pay41 x (wpart W 2 h) (ix2 r j) = vp x W r j := by
  pointwise [k0_pay41, k0_pay39, wpart, proj, vp]

/-- The printed key features, of any projection. -/
theorem pay78_apply (v : FVec Ideal S256x2048 .f32) (i : S256x2048.Idx) : k0_pay78 v i = feat (v i) := by
  pointwise [k0_pay78, feat]

/-- The printed inverse normalizers of the queries. -/
theorem pay43_apply (h) (r : Fin 256) (j : Fin 64) : k0_pay43 x (wpart W 0 h) nq (ix2 r j) = invq x W nq r j := by
  pointwise [k0_pay43, invq]
  simp only [pay42_apply]

/-- Sixteen pieces of 128 columns side by side, read at a column: the piece of the column's head, at its place within it. -/
theorem concat16 {α : Type} (p0 p1 p2 p3 p4 p5 p6 p7 p8 p9 p10 p11 p12 p13 p14 p15 : S256x128.Idx → α) (h) (r : Fin 256) (j : Fin 2048) :
    concatenate S256x2048 1 [⟨S256x128, p0⟩, ⟨S256x128, p1⟩, ⟨S256x128, p2⟩, ⟨S256x128, p3⟩, ⟨S256x128, p4⟩, ⟨S256x128, p5⟩,
        ⟨S256x128, p6⟩, ⟨S256x128, p7⟩, ⟨S256x128, p8⟩, ⟨S256x128, p9⟩, ⟨S256x128, p10⟩, ⟨S256x128, p11⟩, ⟨S256x128, p12⟩,
        ⟨S256x128, p13⟩, ⟨S256x128, p14⟩, ⟨S256x128, p15⟩] h (ix2 r j)
      = ![p0, p1, p2, p3, p4, p5, p6, p7, p8, p9, p10, p11, p12, p13, p14, p15] (hd j) (ix2 r (pl j)) :=
  concatenate_ofFn_apply (t := S256x2048) (s₁ := S256x128) 1
    ![p0, p1, p2, p3, p4, p5, p6, p7, p8, p9, p10, p11, p12, p13, p14, p15] h rfl 128 rfl (ix2 r j) (hd j) rfl (ix2 r (pl j)) rfl
    fun b hb => by
      have : b = 0 := by
        rcases b with ⟨b, hlt⟩
        have : b ≠ 1 := fun e => hb (by subst e; rfl)
        exact Fin.ext (by have : b < 2 := hlt; simp; omega)
      subst this; rfl

/-- A head's readings of its four memories, each times its own factor, summed. -/
def head (q a0 a1 a2 a3 : FVec Ideal S256x2048 .bf16) (mc : Vec Ideal S16x128x512 .bf16) (h : Fin 16) (r : Fin 256) (e : Fin 128) : EReal :=
  (∑ d : Fin 128, q (ix2 r (col h d)) * mc (ix3 h d (bank 0 e))) * a0 (ix2 r (col h e))
    + (∑ d : Fin 128, q (ix2 r (col h d)) * mc (ix3 h d (bank 1 e))) * a1 (ix2 r (col h e))
    + (∑ d : Fin 128, q (ix2 r (col h d)) * mc (ix3 h d (bank 2 e))) * a2 (ix2 r (col h e))
    + (∑ d : Fin 128, q (ix2 r (col h d)) * mc (ix3 h d (bank 3 e))) * a3 (ix2 r (col h e))

/-- The part of the stacked memories that belongs to head `k`. -/
abbrev mpart (k : ℕ) (hk : ∀ a, (![k, 0, 0] : Fin 3 → ℕ) a + (![1, 128, 512] : Fin 3 → ℕ) a ≤ S16x128x512.size a) : Vec Ideal S1x128x512 .bf16 :=
  View.ld mc (Rect.unit (s := S16x128x512) ![k, 0, 0] ![1, 128, 512] hk)

/-- The part of the spreading tables that belongs to memory `k`. -/
abbrev epart (k : ℕ) (hk : ∀ a, (![k, 0, 0] : Fin 3 → ℕ) a + (![1, 64, 2048] : Fin 3 → ℕ) a ≤ S4x64x2048.size a) : Vec Ideal S1x64x2048 .bf16 :=
  View.ld eq (Rect.unit (s := S4x64x2048) ![k, 0, 0] ![1, 64, 2048] hk)

/-- The printed combination of the heads' readings: at column `j`, the readings of `j`'s head at `j`'s place. -/
theorem readings (q : FVec Ideal S256x2048 .bf16) (v : FVec Ideal S256x64 .bf16) (r : Fin 256) (j : Fin 2048)
    (e0 e1 e2 e3 m0 m1 m2 m3 m4 m5 m6 m7 m8 m9 m10 m11 m12 m13 m14 m15)
    (a0 a1 a2 a3 : FVec Ideal S256x2048 .bf16)
    (h0 : k0_pay44 v (epart eq 0 e0) = a0) (h1 : k0_pay45 v (epart eq 1 e1) = a1)
    (h2 : k0_pay46 v (epart eq 2 e2) = a2) (h3 : k0_pay47 v (epart eq 3 e3) = a3) :
    k0_pay77 q a0 a1 a2 a3
        (k0_pay48 q v (epart eq 0 e0) (epart eq 1 e1) (epart eq 2 e2) (epart eq 3 e3) (mpart mc 0 m0))
        (k0_pay50 a0 a1 a2 a3 (k0_pay49 q) (mpart mc 1 m1)) (k0_pay51 q a0 a1 a2 a3 (mpart mc 2 m2))
        (k0_pay53 a0 a1 a2 a3 (k0_pay52 q (mpart mc 3 m3))) (k0_pay54 q a0 a1 a2 a3 (mpart mc 4 m4))
        (k0_pay57 a1 a2 a3 (k0_pay55 q (mpart mc 5 m5)) (k0_pay56 q a0 (mpart mc 5 m5)))
        (k0_pay58 q a0 a1 a2 a3 (mpart mc 6 m6))
        (k0_pay62 a2 a3 (k0_pay59 q (mpart mc 7 m7)) (k0_pay60 q a0 (mpart mc 7 m7)) (k0_pay61 q a1 (mpart mc 7 m7)))
        (k0_pay63 q a0 a1 a2 a3 (mpart mc 8 m8))
        (k0_pay68 a3 (k0_pay64 q (mpart mc 9 m9)) (k0_pay65 q a0 a1 (mpart mc 9 m9)) (k0_pay66 q (mpart mc 9 m9)) (k0_pay67 a2))
        (k0_pay69 q a0 a1 a2 a3 (mpart mc 10 m10))
        (k0_pay74 (k0_pay71 q a0 a1 a2 (mpart mc 11 m11)) (k0_pay72 q (mpart mc 11 m11)) (k0_pay73 a3))
        (k0_pay75 q a0 a1 a2 a3 (mpart mc 12 m12)) (k0_pay76 q a0 a1 a2 a3 (mpart mc 13 m13)) (mpart mc 14 m14) (mpart mc 15 m15)
        (ix2 r j)
      = head q a0 a1 a2 a3 mc (hd j) r (pl j) := by
  unfold k0_pay77
  refine (concat16 _ _ _ _ _ _ _ _ _ _ _ _ _ _ _ _ _ r j).trans ?_
  unfold k0_pay48
  rw [h0, h1, h2, h3]
  generalize hd j = k
  generalize pl j = e
  clear h0 h1 h2 h3
  fin_cases k
  all_goals
    unfold_payloads
    pointwise [head, col, bank, mpart]

/-- The printed inverse normalizers of memory 0, spread over the columns. -/
theorem pay44_apply (h he) (r : Fin 256) (j : Fin 2048) :
    k0_pay44 (k0_pay43 x (wpart W 0 h) nq) (epart eq 0 he) (ix2 r j) = ie x W nq eq 0 r j := by
  pointwise [k0_pay44, ie, epart, pay43_apply]

/-- The printed inverse normalizers of memory 1, spread over the columns. -/
theorem pay45_apply (h he) (r : Fin 256) (j : Fin 2048) :
    k0_pay45 (k0_pay43 x (wpart W 0 h) nq) (epart eq 1 he) (ix2 r j) = ie x W nq eq 1 r j := by
  pointwise [k0_pay45, ie, epart, pay43_apply]

/-- The printed inverse normalizers of memory 2, spread over the columns. -/
theorem pay46_apply (h he) (r : Fin 256) (j : Fin 2048) :
    k0_pay46 (k0_pay43 x (wpart W 0 h) nq) (epart eq 2 he) (ix2 r j) = ie x W nq eq 2 r j := by
  pointwise [k0_pay46, ie, epart, pay43_apply]

/-- The printed inverse normalizers of memory 3, spread over the columns. -/
theorem pay47_apply (h he) (r : Fin 256) (j : Fin 2048) :
    k0_pay47 (k0_pay43 x (wpart W 0 h) nq) (epart eq 3 he) (ix2 r j) = ie x W nq eq 3 r j := by
  pointwise [k0_pay47, ie, epart, pay43_apply]

/-- A column is the one of its head and its place. -/
theorem col_hd_pl (j : Fin 2048) : col (hd j) (pl j) = j := Fin.ext (Nat.div_add_mod j.val 128)

/-- The readings of a column's head at its place, of the printed queries and normalizers, are `comb`. -/
theorem head_comb (h0 h1 e0 e1 e2 e3) (r : Fin 256) (j : Fin 2048) :
    head (k0_pay42 x (wpart W 0 h0)) (k0_pay44 (k0_pay43 x (wpart W 0 h1) nq) (epart eq 0 e0))
        (k0_pay45 (k0_pay43 x (wpart W 0 h1) nq) (epart eq 1 e1)) (k0_pay46 (k0_pay43 x (wpart W 0 h1) nq) (epart eq 2 e2))
        (k0_pay47 (k0_pay43 x (wpart W 0 h1) nq) (epart eq 3 e3)) mc (hd j) r (pl j)
      = comb x W mc nq eq r j := by
  simp only [head, comb, uq, col_hd_pl, pay42_apply, pay44_apply, pay45_apply, pay46_apply, pay47_apply]

/-- The part of the first memories that belongs to head `k`. -/
abbrev bpart (k : ℕ) (hk : ∀ a, (![k, 0, 0] : Fin 3 → ℕ) a + (![1, 128, 128] : Fin 3 → ℕ) a ≤ S16x128x128.size a) : Vec Ideal S1x128x128 .bf16 :=
  View.ld mb (Rect.unit (s := S16x128x128) ![k, 0, 0] ![1, 128, 128] hk)

/-- The printed key features, rounded. -/
theorem pay79_apply (h) (r : Fin 256) (j : Fin 2048) : k0_pay79 (k0_pay40 x (wpart W 1 h)) (ix2 r j) = sk x W r j := by
  pointwise [k0_pay79, pay78_apply, pay40_apply, sk]

/-- The printed inverse normalizers of the keys, spread over the columns. -/
theorem pay80_apply (h) (r : Fin 256) (j : Fin 2048) :
    k0_pay80 (k0_pay40 x (wpart W 1 h)) nk e16 (ix2 r j) = ik x W nk e16 r j := by
  pointwise [k0_pay80, pay79_apply, ik, invk]

/-- The printed residual of the values: at column `j`, the value less the normalized reading of `j`'s head. -/
theorem residual (kp vpp : FVec Ideal S256x2048 .f32) (r : Fin 256) (j : Fin 2048)
    (m0 m1 m2 m3 m4 m5 m6 m7 m8 m9 m10 m11 m12 m13 m14 m15)
    (s : FVec Ideal S256x2048 .bf16) (n : FVec Ideal S256x2048 .f32)
    (hs : k0_pay79 kp = s) (hn : k0_pay80 kp nk e16 = n) :
    k0_pay99 vpp n (k0_pay81 kp nk e16 (bpart mb 0 m0)) (k0_pay82 kp nk e16 (bpart mb 1 m1)) (k0_pay83 kp nk e16 (bpart mb 2 m2))
        (k0_pay85 n (k0_pay84 kp) (bpart mb 3 m3)) (k0_pay86 s n (bpart mb 4 m4)) (k0_pay87 s n (bpart mb 5 m5))
        (k0_pay88 s n (bpart mb 6 m6)) (k0_pay89 s n (bpart mb 7 m7)) (k0_pay90 s n (bpart mb 8 m8))
        (k0_pay92 n (k0_pay91 s) (bpart mb 9 m9)) (k0_pay93 s n (bpart mb 10 m10)) (k0_pay94 s n (bpart mb 11 m11))
        (k0_pay95 s n (bpart mb 12 m12)) (k0_pay96 s n (bpart mb 13 m13)) (k0_pay97 s n (bpart mb 14 m14)) (k0_pay98 s)
        (bpart mb 15 m15) (ix2 r j)
      = vpp (ix2 r j) - (∑ d : Fin 128, s (ix2 r (col (hd j) d)) * mb (ix3 (hd j) d (pl j))) * n (ix2 r j) := by
  unfold k0_pay99
  refine congrArg (vpp (ix2 r j) - ·) ?_
  refine (concat16 _ _ _ _ _ _ _ _ _ _ _ _ _ _ _ _ _ r j).trans ?_
  unfold k0_pay81 k0_pay82 k0_pay83 k0_pay84
  rw [hs, hn, ← congrArg (fun k => n (ix2 r k)) (col_hd_pl j)]
  generalize hd j = k
  generalize pl j = e
  clear hs hn
  fin_cases k
  all_goals
    unfold_payloads
    pointwise [col, bpart]

/-- The printed residual of the block is `dv`. -/
theorem residual_dv (h1 h2) (r : Fin 256) (j : Fin 2048) :
    k0_pay41 x (wpart W 2 h2) (ix2 r j) - (∑ d : Fin 128, k0_pay79 (k0_pay40 x (wpart W 1 h1)) (ix2 r (col (hd j) d)) * mb (ix3 (hd j) d (pl j)))
        * k0_pay80 (k0_pay40 x (wpart W 1 h1)) nk e16 (ix2 r j)
      = dv x W mb nk e16 r j := by
  simp only [dv, rt, pay41_apply, pay79_apply, pay80_apply]

/-- The printed sums of the key features over the block. -/
theorem pay5_apply (h) (j : Fin 2048) : k0_pay5 (k0_pay78 (k0_pay40 x (wpart W 1 h))) (ix3 (0 : Fin 1) (0 : Fin 1) j) = ns x W j := by
  pointwise [k0_pay5, pay78_apply, pay40_apply, ns, sk]

/-- The printed sums of the key features, added to those held. -/
theorem pay7_apply (h) (o : Vec Ideal S1x1x2048 .f32) (j : Fin 2048) :
    k0_pay7 (k0_pay78 (k0_pay40 x (wpart W 1 h))) o (ix3 (0 : Fin 1) (0 : Fin 1) j)
      = o (ix3 (0 : Fin 1) (0 : Fin 1) j) + ns x W j := by
  pointwise [k0_pay7, pay5_apply]

end Cert.KernelIdeal.Block

end
-- ==== Proof.Outs.lean ====
module

public import proofs.«01_k».proof.Proof.MainFrame
public import proofs.«01_k».proof.Proof.Block
public import Idealize.ShloMosaic.Lib.Pipeline.ReadBack

@[expose] public section
set_option maxRecDepth 16384
noncomputable section
namespace Cert.KernelIdeal.Main
open Cert.KernelIdeal Cert.KernelIdeal.Gen
open Idealize.ShloMosaic Idealize.ShloMosaic.TcCoe Idealize.ShloMosaic.Tactic Idealize.SL.Sem Idealize.ShloMosaic.Pointwise

variable (V : (c : Dev nD) → (b : Ref sig .tc) → Buf (Elt Ideal) ((c : Thread nD τ).loc b))

/-- A load out of a buffer that one store has filled whole reads the stored array. -/
theorem readCov_whole (X : Vec Ideal S3x2048x2048 .bf16) (r : Rect S3x2048x2048) :
    (View.whole cc0_scratch0).readCov [⟨Rect.whole S3x2048x2048, ReadAs.same.apply (View.read _ (View.whole main_v8) X)⟩] r.toLoadRect = View.ld X r := by
  exact View.readCov_fill (View.whole cc0_scratch0) (off := fun _ => 0) (fun _ => le_of_eq (Nat.zero_add _)) X [] r (fun _ => rfl)

/-- The first point of a row copies the stacked weights into the scratch. -/
theorem weights_A (c : Dev nD) (t : Fin cfg0.N) (h0 : t.val % 32 = 0) : (outsAt0 V c t.val t.isLt).2.2.2 = V c main_v8 := by
  rw [outsAt0_A V c t h0 h0 (by omega)]
  frame_out
  exact View.canon_cons_unit_lit (off := fun _ => 0) (fun _ => le_of_eq (Nat.zero_add _)) _ [] (fun _ => rfl)

/-- The other points leave the scratch alone. -/
theorem weights_B (c : Dev nD) (t : Fin cfg0.N) (h0 : ¬ t.val % 32 = 0) :
    (outsAt0 V c t.val t.isLt).2.2.2 = (outsAt0 V c (t.val - 1) (by omega)).2.2.2 := by
  rw [outsAt0_B V c t h0 h0 (by omega)]
  rfl

/-- The scratch holds the stacked weights after every point. -/
theorem weights_held (c : Dev nD) : ∀ (n : ℕ) (h : n < cfg0.N), (outsAt0 V c n h).2.2.2 = V c main_v8 := by
  intro n
  induction n with
  | zero => exact fun h => weights_A V c ⟨0, h⟩ (Nat.zero_mod _)
  | succ n ih =>
    intro h
    by_cases h0 : (n + 1) % 32 = 0
    · exact weights_A V c ⟨n + 1, h⟩ h0
    · exact (weights_B V c ⟨n + 1, h⟩ h0).trans (ih _)

/-- The combined readings that a point stores: those of its block of rows. -/
theorem comb_at (c : Dev nD) (t : Fin cfg0.N) (r : Fin 256) (j : Fin 2048) :
    (outsAt0 V c t.val t.isLt).1 (ix2 r j)
      = Block.comb (iblk V c 0 t) (V c main_v8) (iblk V c 1 t) (iblk V c 3 t) (iblk V c 5 t) r j := by
  by_cases h0 : t.val % 32 = 0
  · rw [outsAt0_A V c t h0 h0 (by omega)]
    frame_out
    rw [readCov_whole]
    refine (Block.readings (iblk V c 1 t) (iblk V c 5 t) _ _ r j _ _ _ _ _ _ _ _ _ _ _ _ _ _ _ _ _ _ _ _ _ _ _ _ rfl rfl rfl rfl).trans ?_
    exact Block.head_comb _ _ _ _ _ _ _ _ _ _ _ r j
  · rw [outsAt0_B V c t h0 h0 (by omega)]
    frame_out
    simp only [read_unread_whole, weights_held]
    refine (Block.readings (iblk V c 1 t) (iblk V c 5 t) _ _ r j _ _ _ _ _ _ _ _ _ _ _ _ _ _ _ _ _ _ _ _ _ _ _ _ rfl rfl rfl rfl).trans ?_
    exact Block.head_comb _ _ _ _ _ _ _ _ _ _ _ r j

/-- The first point of a row stores its block's sums of key features. -/
theorem norm_first (c : Dev nD) (t : Fin cfg0.N) (h0 : t.val % 32 = 0) (j : Fin 2048) :
    (outsAt0 V c t.val t.isLt).2.2.1 (ix3 (0 : Fin 1) (0 : Fin 1) j) = Block.ns (iblk V c 0 t) (V c main_v8) j := by
  rw [outsAt0_A V c t h0 h0 (by omega)]
  frame_out
  rw [readCov_whole]
  exact Block.pay5_apply _ _ _ j

/-- Every other point adds its block's sums of key features to those held. -/
theorem norm_next (c : Dev nD) (t : Fin cfg0.N) (h0 : ¬ t.val % 32 = 0) (j : Fin 2048) :
    (outsAt0 V c t.val t.isLt).2.2.1 (ix3 (0 : Fin 1) (0 : Fin 1) j)
      = (outsAt0 V c (t.val - 1) (by omega)).2.2.1 (ix3 (0 : Fin 1) (0 : Fin 1) j) + Block.ns (iblk V c 0 t) (V c main_v8) j := by
  rw [outsAt0_B V c t h0 h0 (by omega)]
  frame_out
  simp only [read_unread_whole, weights_held]
  exact Block.pay7_apply _ _ _ _ j

/-- The first point of a row stores its block's share of the new memories. -/
theorem mem_first (c : Dev nD) (t : Fin cfg0.N) (h0 : t.val % 32 = 0) (h : Fin 16) (d e : Fin 128) :
    (outsAt0 V c t.val t.isLt).2.1 (ix4 (0 : Fin 1) h d e)
      = Block.dk (iblk V c 0 t) (V c main_v8) (iblk V c 2 t) (iblk V c 4 t) (iblk V c 6 t) h d e := by
  rw [outsAt0_A V c t h0 h0 (by omega)]
  frame_out
  rw [readCov_whole, readCov_whole]
  simp only [k0_pay1, k0_pay2, k0_pay3, k0_pay4, k0_pay100, k0_pay101, k0_pay102, k0_pay103, k0_pay104, k0_pay105, k0_pay106, k0_pay107, k0_pay108, k0_pay109, k0_pay110, k0_pay111]
  generalize hdv : k0_pay99 (F := Ideal) _ _ _ _ _ _ _ _ _ _ _ _ _ _ _ _ _ _ _ = v
  have hv : ∀ r j, v (ix2 r j) = Block.dv (iblk V c 0 t) (V c main_v8) (iblk V c 2 t) (iblk V c 4 t) (iblk V c 6 t) r j := fun r j => by
    rw [← hdv]
    refine (Block.residual (iblk V c 2 t) (iblk V c 4 t) (iblk V c 6 t) _ _ r j _ _ _ _ _ _ _ _ _ _ _ _ _ _ _ _ _ _ rfl rfl).trans ?_
    exact Block.residual_dv _ _ _ _ _ _ _ r j
  clear hdv
  generalize hsk : k0_pay79 (F := Ideal) _ = s
  have hs : ∀ r j, s (ix2 r j) = Block.sk (iblk V c 0 t) (V c main_v8) r j := fun r j => by
    rw [← hsk]; exact Block.pay79_apply _ _ _ r j
  clear hsk
  simp only [Block.dk, ← hv, ← hs]
  clear hv hs
  canon_tiles x hx
  all_goals
    unfold_payloads
    pointwise [Block.col]
    change h.val = _ at hx1
    change d.val = _ at hx2
    change e.val = _ at hx3
    exact Finset.sum_congr rfl fun r _ => congrArg₂ (· * ·)
      (congrArg (fun j => s (ix2 r j)) (Fin.ext (by dsimp only; omega)))
      (congrArg (fun j => v (ix2 r j)) (Fin.ext (by dsimp only; omega)))

/-- Every other point adds its block's share of the new memories to those held. -/
theorem mem_next (c : Dev nD) (t : Fin cfg0.N) (h0 : ¬ t.val % 32 = 0) (h : Fin 16) (d e : Fin 128) :
    (outsAt0 V c t.val t.isLt).2.1 (ix4 (0 : Fin 1) h d e)
      = (outsAt0 V c (t.val - 1) (by omega)).2.1 (ix4 (0 : Fin 1) h d e)
        + Block.dk (iblk V c 0 t) (V c main_v8) (iblk V c 2 t) (iblk V c 4 t) (iblk V c 6 t) h d e := by
  rw [outsAt0_B V c t h0 h0 (by omega)]
  frame_out
  simp only [read_unread_whole, weights_held]
  simp only [k0_pay1, k0_pay2, k0_pay3, k0_pay4, k0_pay100, k0_pay101, k0_pay102, k0_pay103, k0_pay104, k0_pay105, k0_pay106, k0_pay107, k0_pay108, k0_pay109, k0_pay110, k0_pay111]
  generalize hdv : k0_pay99 (F := Ideal) _ _ _ _ _ _ _ _ _ _ _ _ _ _ _ _ _ _ _ = v
  have hv : ∀ r j, v (ix2 r j) = Block.dv (iblk V c 0 t) (V c main_v8) (iblk V c 2 t) (iblk V c 4 t) (iblk V c 6 t) r j := fun r j => by
    rw [← hdv]
    refine (Block.residual (iblk V c 2 t) (iblk V c 4 t) (iblk V c 6 t) _ _ r j _ _ _ _ _ _ _ _ _ _ _ _ _ _ _ _ _ _ rfl rfl).trans ?_
    exact Block.residual_dv _ _ _ _ _ _ _ r j
  clear hdv
  generalize hsk : k0_pay79 (F := Ideal) _ = s
  have hs : ∀ r j, s (ix2 r j) = Block.sk (iblk V c 0 t) (V c main_v8) r j := fun r j => by
    rw [← hsk]; exact Block.pay79_apply _ _ _ r j
  clear hsk
  generalize (outsAt0 V c (t.val - 1) _).2.1 = o
  simp only [Block.dk, ← hv, ← hs]
  clear hv hs
  canon_tiles x hx
  all_goals
    unfold_payloads
    pointwise [Block.col]
    change h.val = _ at hx1
    change d.val = _ at hx2
    change e.val = _ at hx3
    refine congrArg₂ (· + ·) (congrArg o ?_) ?_
    · blk_ext
    exact Finset.sum_congr rfl fun r _ => congrArg₂ (· * ·)
      (congrArg (fun j => s (ix2 r j)) (Fin.ext (by dsimp only; omega)))
      (congrArg (fun j => v (ix2 r j)) (Fin.ext (by dsimp only; omega)))

end Cert.KernelIdeal.Main
-- ==== Proof.Arrays.lean ====
module

public import proofs.«01_k».proof.Proof.Outs
public import proofs.«01_k».proof.Proof.OProj

/-!
  What the two calls' output arrays hold after their runs, as plain sums over the arrays the calls are entered with.
-/

@[expose] public section
set_option maxRecDepth 16384
noncomputable section
namespace Cert.KernelIdeal.Main
open Cert.KernelIdeal Cert.KernelIdeal.Gen
open Idealize.ShloMosaic Idealize.ShloMosaic.TcCoe Idealize.ShloMosaic.Tactic Idealize.SL.Sem Idealize.ShloMosaic.Pointwise

variable (V : (c : Dev nD) → (b : Ref sig .tc) → Buf (Elt Ideal) ((c : Thread nD τ).loc b))

/-- Block `t` of 256 rows of the 16384. -/
def rows (X : Vec Ideal S16384x2048 .f32) (t : Fin 64) : Vec Ideal S256x2048 .f32 :=
  fun y => X (ix2 (⟨256 * t.val + (y 0).val, by have : (y 0).val < 256 := (y 0).isLt; omega⟩ : Fin 16384) (⟨(y 1).val, (y 1).isLt⟩ : Fin 2048))

/-- Where the input windows' blocks lie, at every point. -/
theorem idx_in : ∀ t : Fin cfg0.N, win0_0.index t = ![t.val, 0] ∧ win0_1.index t = ![0, 0, 0]
    ∧ win0_2.index t = ![0, 0, 0] ∧ win0_3.index t = ![0, 0] ∧ win0_4.index t = ![0, 0] ∧ win0_5.index t = ![0, 0, 0]
    ∧ win0_6.index t = ![0, 0] :=
  (by decide +kernel : ∀ t : Fin grid0.N, _)

/-- Where the output windows' blocks lie, at every point. -/
theorem idx_out : ∀ t : Fin cfg0.N, win0_7.index t = ![t.val, 0] ∧ win0_8.index t = ![t.val / 32, 0, 0, 0]
    ∧ win0_9.index t = ![t.val / 32, 0, 0] :=
  (by decide +kernel : ∀ t : Fin grid0.N, _)

/-- The first window's block is the point's 256 rows. -/
theorem iblk_rows (c : Dev nD) (t : Fin cfg0.N) : iblk V c 0 t = rows (V c main_v0) t := by
  funext y
  blk_ext [iblk, rows, idx_in t]

/-- The memories' window is the whole array. -/
theorem iblk_1 (c : Dev nD) (t : Fin cfg0.N) : iblk V c 1 t = V c main_v35 := by
  funext y
  blk_ext [iblk, idx_in t]

/-- The first memories' window is the whole array. -/
theorem iblk_2 (c : Dev nD) (t : Fin cfg0.N) : iblk V c 2 t = V c main_v38 := by
  funext y
  blk_ext [iblk, idx_in t]

/-- The queries' normalizers' window is the whole array. -/
theorem iblk_3 (c : Dev nD) (t : Fin cfg0.N) : iblk V c 3 t = V c main_v52 := by
  funext y
  blk_ext [iblk, idx_in t]

/-- The keys' normalizers' window is the whole array. -/
theorem iblk_4 (c : Dev nD) (t : Fin cfg0.N) : iblk V c 4 t = V c main_v61 := by
  funext y
  blk_ext [iblk, idx_in t]

/-- The queries' spreading tables' window is the whole array. -/
theorem iblk_5 (c : Dev nD) (t : Fin cfg0.N) : iblk V c 5 t = V c main_v75 := by
  funext y
  blk_ext [iblk, idx_in t]

/-- The keys' spreading table's window is the whole array. -/
theorem iblk_6 (c : Dev nD) (t : Fin cfg0.N) : iblk V c 6 t = V c main_v79 := by
  funext y
  blk_ext [iblk, idx_in t]

/-- Point `i` of core `k`'s half of the grid. -/
def pt (k : Fin 2) (i : Fin 32) : Fin 64 := ⟨32 * k.val + i.val, by omega⟩

/-- After the last point of a core's half, the normalizers hold the sum over the half's 32 blocks. -/
theorem norm_sum (c : Dev nD) (t : Fin cfg0.N) (h : t.val % 32 = 31) (k : Fin 2) (hk : t.val / 32 = k.val) (j : Fin 2048) :
    (outsAt0 V c t.val t.isLt).2.2.1 (ix3 (0 : Fin 1) (0 : Fin 1) j)
      = ∑ i : Fin 32, Block.ns (rows (V c main_v0) (pt k i)) (V c main_v8) j := by
  refine (Pipeline.eq_sum_fin_of_reset_step_apply_of_flush
    (fun n h j => (outsAt0 V c n h).2.2.1 (ix3 (0 : Fin 1) (0 : Fin 1) j)) 32 (fun _ => (0 : EReal))
    (fun t j => Block.ns (iblk V c 0 t) (V c main_v8) j)
    (fun t h j => (norm_first V c t h j).trans (zero_add _).symm) (fun t h j => norm_next V c t h j) t h j).trans ?_
  refine (zero_add _).trans (Finset.sum_congr rfl fun i _ => ?_)
  rw [iblk_rows]
  exact congrArg (fun t => Block.ns (rows (V c main_v0) t) (V c main_v8) j) (Fin.ext (by simp only [pt, hk]))

/-- After the last point of a core's half, the new memories hold the sum over the half's 32 blocks. -/
theorem mem_sum (c : Dev nD) (t : Fin cfg0.N) (h : t.val % 32 = 31) (k : Fin 2) (hk : t.val / 32 = k.val) (a : Fin 16) (d e : Fin 128) :
    (outsAt0 V c t.val t.isLt).2.1 (ix4 (0 : Fin 1) a d e)
      = ∑ i : Fin 32, Block.dk (rows (V c main_v0) (pt k i)) (V c main_v8) (V c main_v38) (V c main_v61) (V c main_v79) a d e := by
  refine (Pipeline.eq_sum_fin_of_reset_step_apply_of_flush
    (fun n h (p : Fin 16 × Fin 128 × Fin 128) => (outsAt0 V c n h).2.1 (ix4 (0 : Fin 1) p.1 p.2.1 p.2.2)) 32 (fun _ => (0 : EReal))
    (fun t p => Block.dk (iblk V c 0 t) (V c main_v8) (iblk V c 2 t) (iblk V c 4 t) (iblk V c 6 t) p.1 p.2.1 p.2.2)
    (fun t h p => (mem_first V c t h _ _ _).trans (zero_add _).symm) (fun t h p => mem_next V c t h _ _ _) t h (a, d, e)).trans ?_
  refine (zero_add _).trans (Finset.sum_congr rfl fun i _ => ?_)
  dsimp only
  rw [iblk_rows, iblk_2, iblk_4, iblk_6]
  exact congrArg (fun t => Block.dk (rows (V c main_v0) t) (V c main_v8) (V c main_v38) (V c main_v61) (V c main_v79) a d e)
    (Fin.ext (by simp only [pt, hk]))

/-- The combined readings after the run: row by row those of the row's block. -/
theorem arr7 (c : Dev nD) : (dat0 V c).arrAt 7 cfg0.N = fun y : S16384x2048.Idx =>
    Block.comb (rows (V c main_v0) ⟨(y 0).val / 256, by have : (y 0).val < 16384 := (y 0).isLt; omega⟩) (V c main_v8) (V c main_v35) (V c main_v52) (V c main_v75)
      ⟨(y 0).val % 256, by omega⟩ (⟨(y 1).val, (y 1).isLt⟩ : Fin 2048) := by
  refine (dat0 V c).arrAt_eq_of_covers 7 _ (by decide +kernel) fun t hf y => ?_
  rw [after0_7]
  have h := comb_at V c t ⟨(y 0).val, (y 0).isLt⟩ ⟨(y 1).val, (y 1).isLt⟩
  rw [iblk_rows, iblk_1, iblk_3, iblk_5] at h
  have hy : (y : S256x2048.Idx) = ix2 (⟨(y 0).val, (y 0).isLt⟩ : Fin 256) (⟨(y 1).val, (y 1).isLt⟩ : Fin 2048) := by blk_ext
  blk_simp [idx_out t]
  have h0 : (y 0).val < 256 := (y 0).isLt
  refine (congrArg (outsAt0 V c t.val t.isLt).1 hy).trans (h.trans ?_)
  congr 1
  · congr 1
    exact Fin.ext (by dsimp only; omega)
  · exact Fin.ext (by dsimp only; omega)

/-- The new memories' two halves after the run: the sums over the half's 32 blocks. -/
theorem arr8 (c : Dev nD) : (dat0 V c).arrAt 8 cfg0.N = fun y : S2x16x128x128.Idx =>
    ∑ i : Fin 32, Block.dk (rows (V c main_v0) (pt (⟨(y 0).val, (y 0).isLt⟩ : Fin 2) i)) (V c main_v8) (V c main_v38) (V c main_v61) (V c main_v79)
      (⟨(y 1).val, (y 1).isLt⟩ : Fin 16) (⟨(y 2).val, (y 2).isLt⟩ : Fin 128) (⟨(y 3).val, (y 3).isLt⟩ : Fin 128) := by
  refine (dat0 V c).arrAt_eq_of_covers 8 _ (by decide +kernel) fun t hf y => ?_
  rw [after0_8]
  have ht : t.val < 64 := t.isLt
  have h := mem_sum V c t ((flush0_8 t).mp hf) ⟨t.val / 32, by omega⟩ rfl ⟨(y 1).val, (y 1).isLt⟩ ⟨(y 2).val, (y 2).isLt⟩ ⟨(y 3).val, (y 3).isLt⟩
  have hy : (y : S1x16x128x128.Idx) = ix4 (0 : Fin 1) (⟨(y 1).val, (y 1).isLt⟩ : Fin 16) (⟨(y 2).val, (y 2).isLt⟩ : Fin 128) (⟨(y 3).val, (y 3).isLt⟩ : Fin 128) := by
    blk_ext
  blk_simp [idx_out t]
  have h0 : (y 0).val < 1 := (y 0).isLt
  refine (congrArg (outsAt0 V c t.val t.isLt).2.1 hy).trans (h.trans ?_)
  refine Finset.sum_congr rfl fun i _ => ?_
  congr 2

/-- The new normalizers' two halves after the run: the sums over the half's 32 blocks. -/
theorem arr9 (c : Dev nD) : (dat0 V c).arrAt 9 cfg0.N = fun y : S2x1x2048.Idx =>
    ∑ i : Fin 32, Block.ns (rows (V c main_v0) (pt (⟨(y 0).val, (y 0).isLt⟩ : Fin 2) i)) (V c main_v8) (⟨(y 2).val, (y 2).isLt⟩ : Fin 2048) := by
  refine (dat0 V c).arrAt_eq_of_covers 9 _ (by decide +kernel) fun t hf y => ?_
  rw [after0_9]
  have ht : t.val < 64 := t.isLt
  have h := norm_sum V c t ((flush0_9 t).mp hf) ⟨t.val / 32, by omega⟩ rfl ⟨(y 2).val, (y 2).isLt⟩
  have hy : (y : S1x1x2048.Idx) = ix3 (0 : Fin 1) (0 : Fin 1) (⟨(y 2).val, (y 2).isLt⟩ : Fin 2048) := by blk_ext
  blk_simp [idx_out t]
  have h0 : (y 0).val < 1 := (y 0).isLt
  refine (congrArg (outsAt0 V c t.val t.isLt).2.2.1 hy).trans (h.trans ?_)
  refine Finset.sum_congr rfl fun i _ => ?_
  congr 2

end Cert.KernelIdeal.Main
namespace Cert.KernelIdeal.OProj
open Cert.KernelIdeal Cert.KernelIdeal.Gen
open Idealize.ShloMosaic Idealize.ShloMosaic.TcCoe Idealize.ShloMosaic.Tactic Idealize.SL.Sem Idealize.ShloMosaic.Pointwise

variable (V : (c : Dev nD) → (b : Ref sig .tc) → Buf (Elt Ideal) ((c : Thread nD τ).loc b))

/-- Where the second call's blocks lie, at every point. -/
theorem idx : ∀ t : Fin cfg1.N, win1_0.index t = ![t.val, 0] ∧ win1_1.index t = ![0, 0] ∧ win1_2.index t = ![t.val, 0] :=
  (by decide +kernel : ∀ t : Fin grid1.N, _)

/-- One entry of a product of two arrays. -/
def prod (A : Vec Ideal S16384x2048 .bf16) (B : Vec Ideal S2048x2048 .bf16) (r : Fin 16384) (j : Fin 2048) : EReal :=
  ∑ k : Fin 2048, A (ix2 r k) * B (ix2 k j)

/-- The printed product of two blocks. -/
theorem pay1_apply (A : Vec Ideal S1024x2048 .bf16) (B : Vec Ideal S2048x2048 .bf16) (r : Fin 1024) (j : Fin 2048) :
    k1_pay1 A B (ix2 r j) = ∑ k : Fin 2048, A (ix2 r k) * B (ix2 k j) := by
  pointwise [k1_pay1]

/-- Block `t` of 1024 rows of the 16384. -/
def rows (X : Vec Ideal S16384x2048 .bf16) (t : Fin 16) : Vec Ideal S1024x2048 .bf16 :=
  fun y => X (ix2 (⟨1024 * t.val + (y 0).val, by have : (y 0).val < 1024 := (y 0).isLt; omega⟩ : Fin 16384) (⟨(y 1).val, (y 1).isLt⟩ : Fin 2048))

/-- The readings' block is the point's 1024 rows. -/
theorem iblk_rows (c : Dev nD) (t : Fin cfg1.N) : iblk V c 0 t = rows (V c main_v80_0) t := by
  funext y
  blk_ext [iblk, rows, idx t]

/-- The output weights' window is the whole array. -/
theorem iblk_1 (c : Dev nD) (t : Fin cfg1.N) : iblk V c 1 t = V c main_v10 := by
  funext y
  blk_ext [iblk, idx t]

/-- The second call's output after its run: the combined readings times the output weights. -/
theorem arr2 (c : Dev nD) : (dat1 V c).arrAt 2 cfg1.N = fun y : S16384x2048.Idx =>
    prod (V c main_v80_0) (V c main_v10) (⟨(y 0).val, (y 0).isLt⟩ : Fin 16384) (⟨(y 1).val, (y 1).isLt⟩ : Fin 2048) := by
  refine (dat1 V c).arrAt_eq_of_covers 2 _ (by decide +kernel) fun t hf y => ?_
  have hy : (y : S1024x2048.Idx) = ix2 (⟨(y 0).val, (y 0).isLt⟩ : Fin 1024) (⟨(y 1).val, (y 1).isLt⟩ : Fin 2048) := by blk_ext
  dsimp only [dat1]
  blk_simp [idx t]
  frame_out
  rw [iblk_rows, iblk_1]
  refine (congrArg (k1_pay1 (F := Ideal) (rows (V c main_v80_0) t) (V c main_v10)) hy).trans ((pay1_apply _ _ _ _).trans ?_)
  refine Finset.sum_congr rfl fun k _ => congrArg (· * _) ?_
  refine congrArg (V c main_v80_0 : Vec Ideal S16384x2048 .bf16) ?_
  refine congrArg (fun r : Fin 16384 => (ix2 r k : S16384x2048.Idx)) (Fin.ext ?_)
  exact congrArg (· + _) (Nat.mul_comm _ _)
end Cert.KernelIdeal.OProj
-- ==== Proof.Spec.lean ====
module

public import proofs.«01_k».proof.Proof.Block

/-!
  The three results as plain sums over the extended reals, in the arguments: the tokens `X`, the four weight matrices, the
  mixing weights `bw` of the four memories, the memories `mem` and their normalizers `nrm`.

  Both programs are shown to compute these: the kernel block by block, the reference operation by operation.
-/

@[expose] public section

set_option maxRecDepth 16384

noncomputable section

namespace Cert.Proof.Spec

open Cert.KernelIdeal Cert.KernelIdeal.Block
open Idealize.ShloMosaic Idealize.ShloMosaic.Pointwise

variable (X : Vec Ideal S4x4096x2048 .f32) (A Wq Wk Wv Wo : Vec Ideal S2048x2048 .f32) (bw : Vec Ideal S16x4 .f32)
  (mem : Vec Ideal S4x16x128x128 .f32) (nrm : Vec Ideal S4x16x128 .f32)

/-- A token's projection by the matrix `A`, column `j`. -/
def proj (b : Fin 4) (s : Fin 4096) (j : Fin 2048) : EReal := ∑ i : Fin 2048, X (ix3 b s i) * A (ix2 j i)

/-- The feature of that projection. -/
def phi (b : Fin 4) (s : Fin 4096) (j : Fin 2048) : EReal := feat (proj X A b s j)

/-- The normalizer of memory `n` for a token's head, kept from falling under `eps`. -/
def norm (n : Fin 4) (b : Fin 4) (s : Fin 4096) (h : Fin 16) : EReal :=
  max (∑ d : Fin 128, phi X A b s (col h d) * nrm (ix3 n h d)) eps

/-- What a token's head reads from memory `n` at place `e`. -/
def reading (n : Fin 4) (b : Fin 4) (s : Fin 4096) (h : Fin 16) (e : Fin 128) : EReal :=
  ∑ d : Fin 128, phi X A b s (col h d) * mem (ix4 n h d e)

/-- What is left of a token's values once the normalized reading of the first memory is taken off. -/
def resid (b : Fin 4) (s : Fin 4096) (j : Fin 2048) : EReal :=
  proj X Wv b s j - reading X Wk mem 0 b s (hd j) (pl j) * Ideal.div 1 (norm X Wk nrm 0 b s (hd j))

/-- The new first memory. -/
def mem0 (h : Fin 16) (d e : Fin 128) : EReal :=
  mem (ix4 0 h d e) + Ideal.div (∑ b : Fin 4, ∑ s : Fin 4096, phi X Wk b s (col h d) * resid X Wk Wv mem nrm b s (col h e))
    (Ideal.ofBits .f32 0x46800000#32)

/-- The new first normalizer. -/
def norm0 (h : Fin 16) (d : Fin 128) : EReal :=
  nrm (ix3 0 h d) + Ideal.div (∑ b : Fin 4, ∑ s : Fin 4096, phi X Wk b s (col h d)) (Ideal.ofBits .f32 0x40800000#32)

/-- The greatest mixing weight of a head. -/
def top (h : Fin 16) : EReal := Finset.fold max (Ideal.ofBits .f32 0xFF800000#32) (fun n : Fin 4 => bw (ix2 h n)) Finset.univ

/-- The share of memory `n` in a head's mixture, before the shares are made to sum to one. -/
def share (h : Fin 16) (n : Fin 4) : EReal := Ideal.exp (bw (ix2 h n) - max (Ideal.ofBits .f32 0xFF800000#32) (top bw h))

/-- The share of memory `n` in a head's mixture. -/
def soft (h : Fin 16) (n : Fin 4) : EReal := Ideal.div (share bw h n) (∑ k : Fin 4, share bw h k)

/-- One if memory `n` has been written to, zero if not. -/
def active (n : Fin 4) : EReal :=
  FloatOps.uitofp (F := Ideal) .f32
    (BitVec.ofBool (decide (Ideal.ofBits .f32 0x358637BD#32 ≤ ∑ h : Fin 16, ∑ d : Fin 128, nrm (ix3 n h d))))

/-- The weight of memory `n` in a head's mixture: its share, or zero if it has not been written to. -/
def weight (h : Fin 16) (n : Fin 4) : EReal := soft bw h n * active nrm n

/-- Memory `n` read with the weight on the memory, as the kernel has it. -/
def weighted (n : Fin 4) (b : Fin 4) (s : Fin 4096) (h : Fin 16) (e : Fin 128) : EReal :=
  (∑ d : Fin 128, phi X Wq b s (col h d) * (mem (ix4 n h d e) * weight bw nrm h n)) * Ideal.div 1 (norm X Wq nrm n b s h)

/-- Memory `n` read with the weight on the reading, as the reference has it. -/
def mixed (n : Fin 4) (b : Fin 4) (s : Fin 4096) (h : Fin 16) (e : Fin 128) : EReal :=
  soft bw h n * (Ideal.div (reading X Wq mem n b s h e) (norm X Wq nrm n b s h) * active nrm n)

/-- The output from the four weighted readings `f`. -/
def out (f : Fin 4 → Fin 4 → Fin 4096 → Fin 16 → Fin 128 → EReal) (b : Fin 4) (s : Fin 4096) (j : Fin 2048) : EReal :=
  ∑ k : Fin 2048, (∑ n : Fin 4, f n b s (hd k) (pl k)) * Wo (ix2 j k)

/-- The feature, by cases. -/
theorem feat_eq (z : EReal) : feat z = if 0 < z then z + 1 else Ideal.exp z := by
  unfold feat
  by_cases h : 0 < z <;> simp [Scalar.select, Ideal.cmp, h]

/-- The exponential of a number is never below zero. -/
theorem exp_nonneg (z : EReal) : 0 ≤ Ideal.exp z := by
  induction z using EReal.rec with
  | bot => exact le_refl (0 : EReal)
  | top => exact le_top (a := (0 : EReal))
  | coe r => exact EReal.coe_nonneg.mpr (Real.exp_pos r).le

/-- The exponential of a number at or below zero is at most one. -/
theorem exp_le_one {z : EReal} (hz : z ≤ 0) : Ideal.exp z ≤ 1 := by
  induction z using EReal.rec with
  | bot => exact (zero_le_one : (0 : EReal) ≤ 1)
  | top => simp at hz
  | coe r =>
    have hr : r ≤ 0 := by exact_mod_cast hz
    exact EReal.coe_le_coe_iff.mpr (Real.exp_le_one_iff.mpr hr)

/-- Taking one off the exponential and putting it back, as the reference does, changes nothing at or below zero. -/
theorem elu_feat (z : EReal) :
    (if 0 < z then z else Ideal.exp (if 0 < z then 0 else z) - 1) + 1 = feat z := by
  rw [feat_eq]
  by_cases h : 0 < z
  · simp [h]
  · simp only [h, if_false]
    exact EReal.sub_add_cancel (b := 1)

/-- The least normalizer is above zero. -/
theorem eps_pos : (0 : EReal) < eps := by
  simp [eps, Ideal.ofBits, Ideal.ieee, -EReal.coe_mul]

/-- The normalizer is above zero. -/
theorem norm_pos (n : Fin 4) (b : Fin 4) (s : Fin 4096) (h : Fin 16) : 0 < norm X A nrm n b s h :=
  lt_max_of_lt_right eps_pos

/-- Dividing by a number above zero is multiplying by one over it. -/
theorem div_eq {y : EReal} (hy : 0 < y) (x : EReal) : Ideal.div x y = x * Ideal.div 1 y := by
  simp [Ideal.div, hy.ne']

end Cert.Proof.Spec
-- ==== Proof.Entry.lean ====
module

public import proofs.«01_k».proof.Proof.Run
public import proofs.«01_k».proof.Proof.Arrays
public import proofs.«01_k».proof.Proof.Spec
public import Idealize.ShloMosaic.Lib.StableHlo.RunRead

/-!
  The arrays that the kernel's host operations make ready for the two calls, read at an index, in the arguments.
-/

@[expose] public section

set_option maxRecDepth 16384

noncomputable section

namespace Cert.KernelIdeal.Launch

open Cert.KernelIdeal Cert.KernelIdeal.Gen Cert.Proof
open Idealize.ShloMosaic Idealize.ShloMosaic.TcCoe Idealize.ShloMosaic.Tactic Idealize.SL.Sem Idealize.ShloMosaic.Pointwise

variable (m : (ℓ : Loc nD τ sig) → Buf (Elt Ideal) ℓ) (c : Dev nD)

/-- The tokens. -/
abbrev aX : Vec Ideal S4x4096x2048 .f32 := m (c.tc.loc main_arg0)
/-- The query weights. -/
abbrev aQ : Vec Ideal S2048x2048 .f32 := m (c.tc.loc main_arg1)
/-- The key weights. -/
abbrev aK : Vec Ideal S2048x2048 .f32 := m (c.tc.loc main_arg2)
/-- The value weights. -/
abbrev aV : Vec Ideal S2048x2048 .f32 := m (c.tc.loc main_arg3)
/-- The output weights. -/
abbrev aO : Vec Ideal S2048x2048 .f32 := m (c.tc.loc main_arg4)
/-- The mixing weights. -/
abbrev aB : Vec Ideal S16x4 .f32 := m (c.tc.loc main_arg5)
/-- The memories. -/
abbrev aM : Vec Ideal S4x16x128x128 .f32 := m (c.tc.loc main_arg6)
/-- The normalizers. -/
abbrev aN : Vec Ideal S4x16x128 .f32 := m (c.tc.loc main_arg7)

/-- An entry of an identity table: one on the diagonal, zero off it. -/
theorem eye_at (a b : ℕ) (ha : a < 4096) (hb : b < 4096) :
    FloatOps.uitofp (F := Ideal) .f32 (IntOp.cmpi .eq (IntOp.addi (BitVec.ofNat 32 a) 0#32) (BitVec.ofNat 32 b))
      = (if a = b then 1 else 0 : EReal) := by
  have e : (BitVec.ofNat 32 a = BitVec.ofNat 32 b) ↔ a = b :=
    ⟨fun h => by
      have h' := congrArg BitVec.toNat h
      simp only [BitVec.toNat_ofNat] at h'
      omega, congrArg _⟩
  show (((IntOp.cmpi .eq (IntOp.addi (BitVec.ofNat 32 a) 0#32) (BitVec.ofNat 32 b)).toNat : ℝ) : EReal) = _
  by_cases h : a = b
  · subst h
    simp [IntOp.cmpi, IntOp.addi]
  · simp [IntOp.cmpi, IntOp.addi, e, h]

/-- The tokens, one to a row. -/
theorem v0_at (r : Fin 16384) (i : Fin 2048) :
    (E1 m c main_v0 : Vec Ideal S16384x2048 .f32) (ix2 r i) = aX m c (ix3 ⟨r.val / 4096, by omega⟩ ⟨r.val % 4096, by omega⟩ i) := by
  dsimp only [E1, V1]; after_reads_simp; pointwise

/-- The query weights, turned, first in the stack. -/
theorem v8_q (i j : Fin 2048) : (E1 m c main_v8 : Vec Ideal S3x2048x2048 .bf16) (ix3 0 i j) = aQ m c (ix2 j i) := by
  dsimp only [E1, V1]; after_reads_simp; pointwise; after_reads_simp; pointwise

/-- The key weights, turned, second in the stack. -/
theorem v8_k (i j : Fin 2048) : (E1 m c main_v8 : Vec Ideal S3x2048x2048 .bf16) (ix3 1 i j) = aK m c (ix2 j i) := by
  dsimp only [E1, V1]; after_reads_simp; pointwise; after_reads_simp; pointwise

/-- The value weights, turned, third in the stack. -/
theorem v8_v (i j : Fin 2048) : (E1 m c main_v8 : Vec Ideal S3x2048x2048 .bf16) (ix3 2 i j) = aV m c (ix2 j i) := by
  dsimp only [E1, V1]; after_reads_simp; pointwise; after_reads_simp; pointwise

/-- The output weights, turned. -/
theorem v10_at (i j : Fin 2048) : (E1 m c main_v10 : Vec Ideal S2048x2048 .bf16) (ix2 i j) = aO m c (ix2 j i) := by
  dsimp only [E1, V1]; after_reads_simp; pointwise

/-- The four memories of a head side by side, each times its weight. -/
theorem v35_at (h : Fin 16) (d : Fin 128) (j : Fin 512) :
    (E1 m c main_v35 : Vec Ideal S16x128x512 .bf16) (ix3 h d j)
      = aM m c (ix4 ⟨j.val / 128, by omega⟩ h d ⟨j.val % 128, by omega⟩) * Spec.weight (aB m c) (aN m c) h ⟨j.val / 128, by omega⟩ := by
  simp only [Spec.weight, Spec.soft, Spec.share, Spec.top, Spec.active]
  dsimp only [E1, V1]; after_reads_simp; pointwise

/-- The first memory. -/
theorem v38_at (h : Fin 16) (d e : Fin 128) :
    (E1 m c main_v38 : Vec Ideal S16x128x128 .bf16) (ix3 h d e) = aM m c (ix4 0 h d e) := by
  dsimp only [E1, V1]; after_reads_simp; pointwise

/-- The table of every memory's normalizers: a head's normalizers lie in its own columns. -/
theorem v52_at (i : Fin 2048) (j : Fin 64) :
    (E1 m c main_v52 : Vec Ideal S2048x64 .bf16) (ix2 i j)
      = (if i.val / 128 = j.val / 4 then 1 else 0 : EReal)
        * aN m c (ix3 ⟨j.val % 4, by omega⟩ ⟨i.val / 128, by omega⟩ ⟨i.val % 128, by omega⟩) := by
  rw [← eye_at _ _ (by omega) (by omega)]
  dsimp only [E1, V1]; after_reads_simp; pointwise

/-- The table of the first memory's normalizers: a head's normalizers lie in its own column. -/
theorem v61_at (i : Fin 2048) (h : Fin 16) :
    (E1 m c main_v61 : Vec Ideal S2048x16 .bf16) (ix2 i h)
      = (if i.val / 128 = h.val then 1 else 0 : EReal) * aN m c (ix3 0 ⟨i.val / 128, by omega⟩ ⟨i.val % 128, by omega⟩) := by
  rw [← eye_at _ _ (by omega) (by omega)]
  dsimp only [E1, V1]; after_reads_simp; pointwise

/-- The tables that spread a memory's number per head over the head's columns. -/
theorem v75_at (n : Fin 4) (k : Fin 64) (j : Fin 2048) :
    (E1 m c main_v75 : Vec Ideal S4x64x2048 .bf16) (ix3 n k j)
      = (if n.val = k.val % 4 then 1 else 0 : EReal) * (if k.val / 4 = j.val / 128 then 1 else 0) := by
  rw [← eye_at _ _ (by omega) (by omega), ← eye_at _ _ (by omega) (by omega)]
  dsimp only [E1, V1]; after_reads_simp; pointwise

/-- The table that spreads a number per head over the head's columns. -/
theorem v79_at (k : Fin 16) (j : Fin 2048) :
    (E1 m c main_v79 : Vec Ideal S16x2048 .bf16) (ix2 k j) = (if k.val = j.val / 128 then 1 else 0 : EReal) := by
  rw [← eye_at _ _ (by omega) (by omega)]
  dsimp only [E1, V1]; after_reads_simp; pointwise

/-- The kernel's output, in what the second call leaves. -/
theorem v82_at (b : Fin 4) (s : Fin 4096) (j : Fin 2048) :
    (AEnd m c main_v82 : Vec Ideal S4x4096x2048 .f32) (ix3 b s j)
      = (A3 m c main_v81 : Vec Ideal S16384x2048 .f32) (ix2 ⟨b.val * 4096 + s.val, by omega⟩ j) := by
  dsimp only [AEnd, V4]; rw [V3_eq]; after_reads_simp; pointwise

/-- The first memory `M` with the two halves `K` of its update, over the number of tokens. -/
def newMem (M : Vec Ideal S4x16x128x128 .f32) (K : Vec Ideal S2x16x128x128 .f32) (h : Fin 16) (d e : Fin 128) : EReal :=
  M (ix4 0 h d e) + Ideal.div (∑ x : Fin 2, K (ix4 x h d e)) (Ideal.ofBits .f32 0x46800000#32)

/-- The first normalizers `N` with the two halves `K` of their update, over the number of batches. -/
def newNorm (N : Vec Ideal S4x16x128 .f32) (K : Vec Ideal S2x1x2048 .f32) (h : Fin 16) (d : Fin 128) : EReal :=
  N (ix3 0 h d) + Ideal.div (∑ x : Fin 2, K (ix3 x 0 (Block.col h d))) (Ideal.ofBits .f32 0x40800000#32)

/-- The kernel's new memory, in the first call's halves of its update. -/
theorem v88_at (h : Fin 16) (d e : Fin 128) :
    (AEnd m c main_v88 : Vec Ideal S16x128x128 .f32) (ix3 h d e) = newMem (A3 m c main_arg6) (A3 m c main_v80_1) h d e := by
  unfold newMem
  dsimp only [AEnd, V4]; rw [V3_eq]; after_reads_simp; pointwise

/-- The kernel's new normalizers, in the first call's halves of their update. -/
theorem v95_at (h : Fin 16) (d : Fin 128) :
    (AEnd m c main_v95 : Vec Ideal S16x128 .f32) (ix2 h d) = newNorm (A3 m c main_arg7) (A3 m c main_v80_2) h d := by
  have e : Block.col h d = ⟨h.val * 128 + d.val, by omega⟩ := Fin.ext (by simp only [Block.col]; omega)
  rw [newNorm, e]
  dsimp only [AEnd, V4]; rw [V3_eq]; after_reads_simp; pointwise

/-- A memory argument is as it was when the two calls have ended. -/
theorem arg6_at : A3 m c main_arg6 = aM m c := by
  rw [A3_of m c _ (by decide), A2_of m c _ (by decide) (by decide) (by decide)]
  dsimp only [V1]; after_reads_simp

/-- The normalizers are as they were when the two calls have ended. -/
theorem arg7_at : A3 m c main_arg7 = aN m c := by
  rw [A3_of m c _ (by decide), A2_of m c _ (by decide) (by decide) (by decide)]
  dsimp only [V1]; after_reads_simp

end Cert.KernelIdeal.Launch
-- ==== Proof.KernelVals.lean ====
module

public import proofs.«01_k».proof.Proof.Entry

/-!
  The kernel's three results, read at an index and brought to the sums of `Spec`.
-/

@[expose] public section

set_option maxRecDepth 16384

noncomputable section

namespace Cert.KernelIdeal.Launch

open Cert.KernelIdeal Cert.KernelIdeal.Gen Cert.KernelIdeal.Block Cert.Proof
open Cert.KernelIdeal.Main (rows pt)
open Idealize.ShloMosaic Idealize.ShloMosaic.TcCoe Idealize.SL.Sem Idealize.ShloMosaic.Pointwise

variable (m : (ℓ : Loc nD τ sig) → Buf (Elt Ideal) ℓ) (c : Dev nD)

/-- The batch of a block's row. -/
def bt (t : Fin 64) (r : Fin 256) : Fin 4 := ⟨(256 * t.val + r.val) / 4096, by omega⟩

/-- The token of a block's row. -/
def st (t : Fin 64) (r : Fin 256) : Fin 4096 := ⟨(256 * t.val + r.val) % 4096, by omega⟩

/-- Block `t` of the tokens. -/
def eX (t : Fin 64) : Vec Ideal S256x2048 .f32 := rows (E1 m c main_v0) t
/-- The stacked weights. -/
def eW : Vec Ideal S3x2048x2048 .bf16 := E1 m c main_v8
/-- The weighted memories. -/
def eC : Vec Ideal S16x128x512 .bf16 := E1 m c main_v35
/-- The first memory. -/
def eB : Vec Ideal S16x128x128 .bf16 := E1 m c main_v38
/-- The table of normalizers. -/
def eQ : Vec Ideal S2048x64 .bf16 := E1 m c main_v52
/-- The table of the first normalizers. -/
def eK : Vec Ideal S2048x16 .bf16 := E1 m c main_v61
/-- The spreading tables. -/
def eE : Vec Ideal S4x64x2048 .bf16 := E1 m c main_v75
/-- The spreading table. -/
def eS : Vec Ideal S16x2048 .bf16 := E1 m c main_v79

/-- A block's row is its token. -/
theorem eX_at (t : Fin 64) (r : Fin 256) (i : Fin 2048) : eX m c t (ix2 r i) = aX m c (ix3 (bt t r) (st t r) i) := v0_at m c _ i

/-- An entry of the weighted memories. -/
theorem eC_at (h : Fin 16) (d : Fin 128) (n : Fin 4) (e : Fin 128) :
    eC m c (ix3 h d (bank n e)) = aM m c (ix4 n h d e) * Spec.weight (aB m c) (aN m c) h n := by
  have h1 : (⟨(bank n e).val / 128, by omega⟩ : Fin 4) = n := Fin.ext (by simp only [bank]; omega)
  have h2 : (⟨(bank n e).val % 128, by omega⟩ : Fin 128) = e := Fin.ext (by simp only [bank]; omega)
  refine (v35_at m c h d (bank n e)).trans ?_
  rw [h1, h2]

/-- An entry of the first memory. -/
theorem eB_at (h : Fin 16) (d e : Fin 128) : eB m c (ix3 h d e) = aM m c (ix4 0 h d e) := v38_at m c h d e

/-- An entry of the table of normalizers. -/
theorem eQ_at (i : Fin 2048) (j : Fin 64) :
    eQ m c (ix2 i j) = (if i.val / 128 = j.val / 4 then 1 else 0 : EReal) * aN m c (ix3 ⟨j.val % 4, by omega⟩ (hd i) (pl i)) :=
  v52_at m c i j

/-- An entry of the table of the first normalizers. -/
theorem eK_at (i : Fin 2048) (h : Fin 16) :
    eK m c (ix2 i h) = (if i.val / 128 = h.val then 1 else 0 : EReal) * aN m c (ix3 0 (hd i) (pl i)) := v61_at m c i h

/-- An entry of the spreading tables. -/
theorem eE_at (n : Fin 4) (k : Fin 64) (j : Fin 2048) :
    eE m c (ix3 n k j) = (if n.val = k.val % 4 then 1 else 0 : EReal) * (if k.val / 4 = j.val / 128 then 1 else 0) := v75_at m c n k j

/-- An entry of the spreading table. -/
theorem eS_at (k : Fin 16) (j : Fin 2048) : eS m c (ix2 k j) = (if k.val = j.val / 128 then 1 else 0 : EReal) := v79_at m c k j

/-- The stacked weights' parts. -/
theorem eW_q (i j : Fin 2048) : eW m c (ix3 0 i j) = aQ m c (ix2 j i) := v8_q m c i j
/-- The key weights. -/
theorem eW_k (i j : Fin 2048) : eW m c (ix3 1 i j) = aK m c (ix2 j i) := v8_k m c i j
/-- The value weights. -/
theorem eW_v (i j : Fin 2048) : eW m c (ix3 2 i j) = aV m c (ix2 j i) := v8_v m c i j

/-- The block's query features. -/
theorem sq_at (t : Fin 64) (r : Fin 256) (j : Fin 2048) :
    sq (eX m c t) (eW m c) r j = Spec.phi (aX m c) (aQ m c) (bt t r) (st t r) j :=
  congrArg feat (Finset.sum_congr rfl fun i _ => congrArg₂ (· * ·) (eX_at m c t r i) (eW_q m c i j))

/-- The block's key features. -/
theorem sk_at (t : Fin 64) (r : Fin 256) (j : Fin 2048) :
    sk (eX m c t) (eW m c) r j = Spec.phi (aX m c) (aK m c) (bt t r) (st t r) j :=
  congrArg feat (Finset.sum_congr rfl fun i _ => congrArg₂ (· * ·) (eX_at m c t r i) (eW_k m c i j))

/-- The block's values. -/
theorem vp_at (t : Fin 64) (r : Fin 256) (j : Fin 2048) :
    vp (eX m c t) (eW m c) r j = Spec.proj (aX m c) (aV m c) (bt t r) (st t r) j := by
  unfold vp Block.proj Spec.proj
  refine Finset.sum_congr rfl fun i _ => ?_
  rw [eX_at, eW_v]

/-- The head of a head's column. -/
theorem hd_col (h : Fin 16) (d : Fin 128) : hd (col h d) = h := Fin.ext (by simp only [hd, col]; omega)

/-- The place of a place's column. -/
theorem pl_col (h : Fin 16) (d : Fin 128) : pl (col h d) = d := Fin.ext (by simp only [pl, col]; omega)

/-- A sum over all columns of which only one head's count is the sum over that head's columns. -/
theorem sum_head (f g : Fin 2048 → EReal) (h : Fin 16) :
    ∑ i : Fin 2048, f i * ((if i.val / 128 = h.val then 1 else 0) * g i) = ∑ d : Fin 128, f (col h d) * g (col h d) := by
  refine (Fin.sum_divmod_congr (A := 16) (S := 128)
    (f := fun k d => f (col k d) * ((if k.val = h.val then 1 else 0) * g (col k d))) fun i hi hd' => ?_).trans ?_
  · rw [show col ⟨i.val / 128, hi⟩ ⟨i.val % 128, hd'⟩ = i from col_hd_pl i]
  · rw [Finset.sum_eq_single h (fun k _ hk => Finset.sum_eq_zero fun d _ => by simp [Fin.val_ne_of_ne hk]) (by simp)]
    simp

/-- One over a query normalizer. -/
theorem invq_at (t : Fin 64) (r : Fin 256) (n : Fin 4) (h : Fin 16) (k : Fin 64) (hk : k.val = 4 * h.val + n.val) :
    invq (eX m c t) (eW m c) (eQ m c) r k = Ideal.div 1 (Spec.norm (aX m c) (aQ m c) (aN m c) n (bt t r) (st t r) h) := by
  have h1 : k.val / 4 = h.val := by omega
  have h2 : (⟨k.val % 4, by omega⟩ : Fin 4) = n := Fin.ext (by simp only; omega)
  unfold invq Spec.norm
  refine congrArg (fun z => Ideal.div 1 (max z eps)) ?_
  refine ((Finset.sum_congr rfl fun i _ => ?_).trans (sum_head (fun i => Spec.phi (aX m c) (aQ m c) (bt t r) (st t r) i)
    (fun i => aN m c (ix3 n (hd i) (pl i))) h)).trans (Finset.sum_congr rfl fun d _ => ?_)
  · rw [sq_at, eQ_at, h1, h2]
  · simp only [hd_col, pl_col]

/-- One over a query normalizer, spread over the head's columns. -/
theorem ie_at (t : Fin 64) (r : Fin 256) (n : Fin 4) (j : Fin 2048) :
    ie (eX m c t) (eW m c) (eQ m c) (eE m c) n r j
      = Ideal.div 1 (Spec.norm (aX m c) (aQ m c) (aN m c) n (bt t r) (st t r) (hd j)) := by
  unfold ie
  rw [Finset.sum_eq_single (⟨4 * (hd j).val + n.val, by omega⟩ : Fin 64) _ (by simp)]
  · rw [invq_at m c t r n (hd j) _ rfl, eE_at]
    have h1 : n.val = (4 * (hd j).val + n.val) % 4 := by omega
    have h2 : (4 * (hd j).val + n.val) / 4 = j.val / 128 := by simp only [hd]; omega
    rw [if_pos h1, if_pos h2]; simp
  · intro k _ hk
    rw [eE_at]
    by_cases h1 : n.val = k.val % 4
    · have h2 : k.val / 4 ≠ j.val / 128 := fun h2 => hk (Fin.ext (by simp only [hd]; omega))
      rw [if_neg h2]; simp
    · rw [if_neg h1]; simp

/-- A weighted reading of memory `n`. -/
theorem uq_at (t : Fin 64) (r : Fin 256) (n : Fin 4) (h : Fin 16) (e : Fin 128) :
    uq (eX m c t) (eW m c) (eC m c) h r (bank n e)
      = ∑ d : Fin 128, Spec.phi (aX m c) (aQ m c) (bt t r) (st t r) (col h d)
          * (aM m c (ix4 n h d e) * Spec.weight (aB m c) (aN m c) h n) := by
  unfold uq
  refine Finset.sum_congr rfl fun d _ => ?_
  rw [sq_at, eC_at]

/-- The block's mixture of the four readings. -/
theorem comb_at (t : Fin 64) (r : Fin 256) (j : Fin 2048) :
    comb (eX m c t) (eW m c) (eC m c) (eQ m c) (eE m c) r j
      = ∑ n : Fin 4, Spec.weighted (aX m c) (aQ m c) (aB m c) (aM m c) (aN m c) n (bt t r) (st t r) (hd j) (pl j) := by
  simp only [comb, uq_at, ie_at, Fin.sum_univ_four, Spec.weighted]

/-- One over a key normalizer, spread over the head's columns. -/
theorem ik_at (t : Fin 64) (r : Fin 256) (j : Fin 2048) :
    ik (eX m c t) (eW m c) (eK m c) (eS m c) r j
      = Ideal.div 1 (Spec.norm (aX m c) (aK m c) (aN m c) 0 (bt t r) (st t r) (hd j)) := by
  unfold ik
  rw [Finset.sum_eq_single (hd j) _ (by simp)]
  · rw [eS_at, if_pos (by rfl), mul_one]
    unfold invk Spec.norm
    refine congrArg (fun z => Ideal.div 1 (max z eps)) ?_
    refine ((Finset.sum_congr rfl fun i _ => ?_).trans (sum_head (fun i => Spec.phi (aX m c) (aK m c) (bt t r) (st t r) i)
      (fun i => aN m c (ix3 0 (hd i) (pl i))) (hd j))).trans (Finset.sum_congr rfl fun d _ => ?_)
    · rw [sk_at, eK_at]
    · simp only [hd_col, pl_col]
  · intro k _ hk
    have h : k.val ≠ j.val / 128 := fun h => hk (Fin.ext h)
    rw [eS_at, if_neg h, mul_zero]

/-- The block's values less the normalized reading of the first memory. -/
theorem dv_at (t : Fin 64) (r : Fin 256) (j : Fin 2048) :
    dv (eX m c t) (eW m c) (eB m c) (eK m c) (eS m c) r j
      = Spec.resid (aX m c) (aK m c) (aV m c) (aM m c) (aN m c) (bt t r) (st t r) j := by
  have hr : rt (eX m c t) (eW m c) (eB m c) r j = Spec.reading (aX m c) (aK m c) (aM m c) 0 (bt t r) (st t r) (hd j) (pl j) := by
    unfold rt Spec.reading
    refine Finset.sum_congr rfl fun d _ => ?_
    rw [sk_at, eB_at]
  unfold dv Spec.resid
  rw [vp_at, ik_at, hr]

/-- Summing over two halves, each half's blocks and each block's rows is summing over batches and tokens. -/
theorem sum_tokens (f : Fin 4 → Fin 4096 → EReal) :
    ∑ x : Fin 2, ∑ i : Fin 32, ∑ r : Fin 256, f (bt (pt x i) r) (st (pt x i) r) = ∑ b : Fin 4, ∑ s : Fin 4096, f b s := by
  let g : Fin 16384 → EReal := fun R => f ⟨R.val / 4096, by omega⟩ ⟨R.val % 4096, by omega⟩
  have e2 : ∑ R : Fin 16384, g R = ∑ b : Fin 4, ∑ s : Fin 4096, f b s := Fin.sum_divmod_congr fun R _ _ => rfl
  have e1 : ∑ t : Fin 64, ∑ r : Fin 256, f (bt t r) (st t r) = ∑ R : Fin 16384, g R :=
    Fin.sum_mul_add_congr fun t r hl => by
      simp only [g, bt, st, Nat.mul_comm 256]
  rw [← e2, ← e1]
  exact Fin.sum_mul_add_congr (f := fun t => ∑ r : Fin 256, f (bt t r) (st t r)) fun x i hl => by
    have : pt x i = ⟨x.val * 32 + i.val, hl⟩ := Fin.ext (by simp only [pt]; omega)
    rw [this]

/-- The two halves of the normalizers' update, as the first call leaves them. -/
def normHalves : Vec Ideal S2x1x2048 .f32 := fun y => ∑ i : Fin 32,
  ns (eX m c (pt ⟨(y 0).val, (y 0).isLt⟩ i)) (eW m c) ⟨(y 2).val, (y 2).isLt⟩

/-- The two halves of the memory's update, as the first call leaves them. -/
def memHalves : Vec Ideal S2x16x128x128 .f32 := fun y => ∑ i : Fin 32,
  dk (eX m c (pt ⟨(y 0).val, (y 0).isLt⟩ i)) (eW m c) (eB m c) (eK m c) (eS m c) ⟨(y 1).val, (y 1).isLt⟩ ⟨(y 2).val, (y 2).isLt⟩
    ⟨(y 3).val, (y 3).isLt⟩

/-- The mixtures, as the first call leaves them. -/
def mixes : Vec Ideal S16384x2048 .bf16 := fun y =>
  comb (eX m c ⟨(y 0).val / 256, by have : (y 0).val < 16384 := (y 0).isLt; omega⟩) (eW m c) (eC m c) (eQ m c) (eE m c)
    ⟨(y 0).val % 256, by omega⟩ ⟨(y 1).val, (y 1).isLt⟩

/-- The first call leaves the halves of the normalizers' update. -/
theorem normHalves_eq : A3 m c main_v80_2 = normHalves m c :=
  (A3_of m c main_v80_2 (by decide)).trans ((A2_2 m c).trans (Main.arr9 (E1 m) c))

/-- The first call leaves the halves of the memory's update. -/
theorem memHalves_eq : A3 m c main_v80_1 = memHalves m c :=
  (A3_of m c main_v80_1 (by decide)).trans ((A2_1 m c).trans (Main.arr8 (E1 m) c))

/-- The first call leaves the mixtures. -/
theorem mixes_eq : A2 m c main_v80_0 = mixes m c := (A2_0 m c).trans (Main.arr7 (E1 m) c)

/-- The output weights, turned, as the second call finds them. -/
def eO : Vec Ideal S2048x2048 .bf16 := E1 m c main_v10

/-- An entry of the turned output weights. -/
theorem eO_at (i j : Fin 2048) : eO m c (ix2 i j) = aO m c (ix2 j i) := v10_at m c i j

/-- The second call finds the turned output weights. -/
theorem eO_eq : A2 m c main_v10 = eO m c := A2_of m c main_v10 (by decide) (by decide) (by decide)

/-- The kernel's new normalizers. -/
theorem norm0_at (h : Fin 16) (d : Fin 128) :
    (AEnd m c main_v95 : Vec Ideal S16x128 .f32) (ix2 h d) = Spec.norm0 (aX m c) (aK m c) (aN m c) h d := by
  refine (v95_at m c h d).trans ((congrArg₂ (fun N K => newNorm N K h d) (arg7_at m c) (normHalves_eq m c)).trans ?_)
  have hs : ∑ x : Fin 2, normHalves m c (ix3 x 0 (col h d)) = ∑ b : Fin 4, ∑ s : Fin 4096, Spec.phi (aX m c) (aK m c) b s (col h d) := by
    rw [← sum_tokens]
    exact Finset.sum_congr rfl fun x _ => Finset.sum_congr rfl fun i _ => Finset.sum_congr rfl fun r _ => sk_at m c (pt x i) r (col h d)
  unfold newNorm Spec.norm0
  rw [hs]

/-- The kernel's new memory. -/
theorem mem0_at (h : Fin 16) (d e : Fin 128) :
    (AEnd m c main_v88 : Vec Ideal S16x128x128 .f32) (ix3 h d e)
      = Spec.mem0 (aX m c) (aK m c) (aV m c) (aM m c) (aN m c) h d e := by
  refine (v88_at m c h d e).trans ((congrArg₂ (fun M K => newMem M K h d e) (arg6_at m c) (memHalves_eq m c)).trans ?_)
  have hs : ∑ x : Fin 2, memHalves m c (ix4 x h d e) = ∑ b : Fin 4, ∑ s : Fin 4096, Spec.phi (aX m c) (aK m c) b s (col h d)
      * Spec.resid (aX m c) (aK m c) (aV m c) (aM m c) (aN m c) b s (col h e) := by
    rw [← sum_tokens fun b s => Spec.phi (aX m c) (aK m c) b s (col h d)
      * Spec.resid (aX m c) (aK m c) (aV m c) (aM m c) (aN m c) b s (col h e)]
    exact Finset.sum_congr rfl fun x _ => Finset.sum_congr rfl fun i _ => Finset.sum_congr rfl fun r _ =>
      congrArg₂ (· * ·) (sk_at m c (pt x i) r (col h d)) (dv_at m c (pt x i) r (col h e))
  unfold newMem Spec.mem0
  rw [hs]

/-- The mixtures, one token to a row. -/
theorem mix_at (b : Fin 4) (s : Fin 4096) (k : Fin 2048) (p : b.val * 4096 + s.val < 16384) :
    mixes m c (ix2 ⟨b.val * 4096 + s.val, p⟩ k)
      = ∑ n : Fin 4, Spec.weighted (aX m c) (aQ m c) (aB m c) (aM m c) (aN m c) n b s (hd k) (pl k) := by
  refine (comb_at m c _ _ k).trans ?_
  have e1 : bt ⟨(b.val * 4096 + s.val) / 256, by omega⟩ ⟨(b.val * 4096 + s.val) % 256, by omega⟩ = b :=
    Fin.ext (by simp only [bt]; omega)
  have e2 : st ⟨(b.val * 4096 + s.val) / 256, by omega⟩ ⟨(b.val * 4096 + s.val) % 256, by omega⟩ = s :=
    Fin.ext (by simp only [st]; omega)
  exact congrArg₂ (fun b s => ∑ n : Fin 4, Spec.weighted (aX m c) (aQ m c) (aB m c) (aM m c) (aN m c) n b s (hd k) (pl k)) e1 e2

/-- The second call leaves the mixtures times the output weights. -/
theorem product_eq (r : Fin 16384) (j : Fin 2048) :
    (A3 m c main_v81 : Vec Ideal S16384x2048 .f32) (ix2 r j) = OProj.prod (mixes m c) (eO m c) r j :=
  (congrFun ((A3_1 m c).trans (OProj.arr2 (E2 m) c)) (ix2 r j)).trans
    (congrArg₂ (fun A B => OProj.prod A B r j) (mixes_eq m c) (eO_eq m c))

/-- The kernel's output. -/
theorem out_at (b : Fin 4) (s : Fin 4096) (j : Fin 2048) :
    (AEnd m c main_v82 : Vec Ideal S4x4096x2048 .f32) (ix3 b s j)
      = Spec.out (aO m c) (Spec.weighted (aX m c) (aQ m c) (aB m c) (aM m c) (aN m c)) b s j := by
  have hp : OProj.prod (mixes m c) (eO m c) ⟨b.val * 4096 + s.val, by omega⟩ j
      = Spec.out (aO m c) (Spec.weighted (aX m c) (aQ m c) (aB m c) (aM m c) (aN m c)) b s j := by
    unfold OProj.prod Spec.out
    refine Finset.sum_congr rfl fun k _ => ?_
    rw [mix_at, eO_at]
  exact (v82_at m c b s j).trans ((product_eq m c _ j).trans hp)

end Cert.KernelIdeal.Launch
-- ==== Proof.RefVals.lean ====
module

public import proofs.«01_k».proof.Proof.Gen.ReferenceIdeal.Read
public import proofs.«01_k».proof.Proof.Spec

/-!
  The reference's three results, read at an index and brought to the sums of `Spec`.
-/

@[expose] public section

set_option maxRecDepth 16384

noncomputable section

namespace Cert.ReferenceIdeal.Vals

open Cert.ReferenceIdeal Cert.ReferenceIdeal.Gen Cert.ReferenceIdeal.Read Cert.Proof
open Cert.KernelIdeal.Block (col hd pl eps feat)
open Idealize.ShloMosaic Idealize.ShloMosaic.TcCoe Idealize.ShloMosaic.Pointwise

variable (X : Vec Ideal S4x4096x2048 .f32) (Wq Wk Wv Wo : Vec Ideal S2048x2048 .f32) (bw : Vec Ideal S16x4 .f32)
  (mem : Vec Ideal S4x16x128x128 .f32) (nrm : Vec Ideal S4x16x128 .f32)

/-- The column of a head and a place, with the factors the other way round. -/
theorem col_eq (h : Fin 16) (d : Fin 128) (p : h.val * 128 + d.val < 2048) : (⟨h.val * 128 + d.val, p⟩ : Fin 2048) = col h d :=
  Fin.ext (by simp only [col]; omega)

/-- The query features. -/
theorem v14_at (b : Fin 4) (h : Fin 16) (s : Fin 4096) (d : Fin 128) :
    val_main_v14 (F := Ideal) X Wq (ix4 b h s d) = Spec.phi X Wq b s (col h d) := by
  rw [Spec.phi, ← Spec.elu_feat, Spec.proj]
  pointwise [val_main_v14, val_main_v13, val_main_v12, val_main_v3, val_main_v2, val_main_v1, val_main_v0, val_main_call0_v1,
    val_main_call0_v7, val_main_call0_v6, val_main_call0_v5, val_main_call0_v4, val_main_call0_call0_v1, val_main_call0_call0_v0,
    val_main_call0_cst_0, val_main_call0_v0, val_main_call0_v2, val_main_call0_v3, val_main_call0_cst, val_main_call0_cst_2,
    val_main_call0_cst_1, val_main_cst, id, col_eq]

/-- The key features. -/
theorem v45_at (b : Fin 4) (h : Fin 16) (s : Fin 4096) (d : Fin 128) :
    val_main_v45 (F := Ideal) X Wk (ix4 b h s d) = Spec.phi X Wk b s (col h d) := by
  rw [Spec.phi, ← Spec.elu_feat, Spec.proj]
  pointwise [val_main_v45, val_main_v44, val_main_v43, val_main_v7, val_main_v6, val_main_v5, val_main_v4, val_main_call2_v1,
    val_main_call2_v7, val_main_call2_v6, val_main_call2_v5, val_main_call2_v4, val_main_call2_call0_v1, val_main_call2_call0_v0,
    val_main_call2_cst_0, val_main_call2_v0, val_main_call2_v2, val_main_call2_v3, val_main_call2_cst, val_main_call2_cst_2,
    val_main_call2_cst_1, val_main_cst_6, id, col_eq]

/-- The values less the normalized reading of the first memory. -/
theorem v58_at (b : Fin 4) (h : Fin 16) (s : Fin 4096) (e : Fin 128) :
    val_main_v58 (F := Ideal) X Wk Wv mem nrm (ix4 b h s e) = Spec.resid X Wk Wv mem nrm b s (col h e) := by
  have e1 : hd (col h e) = h := Fin.ext (by simp only [hd, col]; omega)
  have e2 : pl (col h e) = e := Fin.ext (by simp only [pl, col]; omega)
  rw [Spec.resid, e1, e2, ← Spec.div_eq (Spec.norm_pos _ _ _ _ _ _ _), Spec.norm, Spec.reading, Spec.proj]
  pointwise [val_main_v58, val_main_v57, val_main_v56, val_main_v55, val_main_v54, val_main_v53, val_main_v52, val_main_v51,
    val_main_v50, val_main_v49, val_main_v48, val_main_v47, val_main_v46, val_main_v11, val_main_v10, val_main_v9, val_main_v8,
    val_main_call3_v1, val_main_call3_v0, val_main_cst_7, id, col_eq, v45_at]
  simp only [mul_comm, max_comm]

/-- The new first memory. -/
theorem v62_at (h : Fin 16) (d e : Fin 128) :
    val_main_v62 (F := Ideal) X Wk Wv mem nrm (ix3 h d e) = Spec.mem0 X Wk Wv mem nrm h d e := by
  rw [Spec.mem0]
  pointwise [val_main_v62, val_main_v61, val_main_v60, val_main_v59, val_main_v47, val_main_v46, val_main_cst_8, v45_at, v58_at]

/-- The entries that a sum over batch and token gathers at head `h`, place `d`. -/
theorem dropped (h : Fin 16) (d : Fin 128) (i : S4x16x4096x128.Idx) :
    (reducesTo_S4x16x4096x128_S16x128_d0_2).drop i = (ix2 h d : S16x128.Idx)
      ↔ ∃ k : Fin 4 × Fin 4096, (ix4 k.1 h k.2 d : S4x16x4096x128.Idx) = i := by
  refine ⟨fun e => ⟨(i 0, i 2), ?_⟩, ?_⟩
  · have e0 : i 1 = h := Fin.ext (congrArg Fin.val (congrFun e 0))
    have e1 : i 3 = d := Fin.ext (congrArg Fin.val (congrFun e 1))
    rw [← e0, ← e1]
    funext a
    fin_cases a <;> rfl
  · rintro ⟨k, rfl⟩
    funext a
    fin_cases a <;> rfl

/-- The key features summed over tokens. -/
theorem v63_at (h : Fin 16) (d : Fin 128) :
    val_main_v63 (F := Ideal) X Wk (ix2 h d) = ∑ b : Fin 4, ∑ s : Fin 4096, Spec.phi X Wk b s (col h d) := by
  pointwise [val_main_v63]
  unfold Ideal.hostReduceAdd
  rw [show val_main_cst_9 (F := Ideal) (Shape.Idx.first h_S_) = 0 from Ideal.ofBits_zero_f32, zero_add,
    Finset.sum_filter_eq_sum_of_fiber _ (fun k : Fin 4 × Fin 4096 => ix4 k.1 h k.2 d)
      (fun _ _ e => Prod.ext (congrFun e 0) (congrFun e 2)) (dropped h d) (val_main_v45 X Wk), Fintype.sum_prod_type]
  exact Finset.sum_congr rfl fun b _ => Finset.sum_congr rfl fun s _ => v45_at X Wk b h s d

/-- The new first normalizer. -/
theorem v66_at (h : Fin 16) (d : Fin 128) :
    val_main_v66 (F := Ideal) X Wk nrm (ix2 h d) = Spec.norm0 X Wk nrm h d := by
  rw [Spec.norm0, ← v63_at]
  pointwise [val_main_v66, val_main_v65, val_main_v64, val_main_v49, val_main_v48, val_main_cst_10]

/-- The shares of the four memories. -/
theorem v40_at (h : Fin 16) (n : Fin 4) : val_main_v40 (F := Ideal) bw (ix2 h n) = Spec.soft bw h n := by
  simp only [Spec.soft, Spec.share, Spec.top]
  pointwise [val_main_v40, val_main_v39, val_main_v38, val_main_v37, val_main_v36, val_main_v35, val_main_v34, val_main_v33,
    val_main_v32, val_main_v30, val_main_v31, val_main_cst_3, val_main_cst_4, val_main_cst_5]

/-- Whether a memory has been written to. -/
theorem v26_at (n : Fin 4) : val_main_v26 (F := Ideal) nrm (ix1 n) = Spec.active nrm n := by
  rw [Spec.active]
  pointwise [val_main_v26, val_main_v25, val_main_v24, val_main_v23, val_main_cst_1, val_main_cst_2]

/-- The bound that the query normalizers are kept above. -/
theorem clip_at (i : S4x4x16x4096.Idx) : val_main_call1_v1 (F := Ideal) i = eps := by
  pointwise [val_main_call1_v1, val_main_call1_v0, val_main_cst_0, id]

/-- The mixture of the four readings. -/
theorem v41_at (b : Fin 4) (h : Fin 16) (s : Fin 4096) (d : Fin 128) :
    val_main_v41 (F := Ideal) X Wq bw mem nrm (ix4 h b s d) = ∑ n : Fin 4, Spec.mixed X Wq bw mem nrm n b s h d := by
  simp only [Spec.mixed, Spec.norm, Spec.reading]
  pointwise [val_main_v41, val_main_v29, val_main_v28, val_main_v27, val_main_v22, val_main_v21, val_main_v20, val_main_v19,
    val_main_v18, val_main_v17, val_main_v16, val_main_v15, v40_at, v26_at, v14_at, clip_at]
  simp only [mul_comm, max_comm]

/-- The output. -/
theorem v70_at (b : Fin 4) (s : Fin 4096) (j : Fin 2048) :
    val_main_v70 (F := Ideal) X Wq Wo bw mem nrm (ix3 b s j) = Spec.out Wo (Spec.mixed X Wq bw mem nrm) b s j := by
  rw [Spec.out]
  pointwise [val_main_v70, val_main_v69, val_main_v68, val_main_v67, val_main_v42, v41_at, hd, pl]

end Cert.ReferenceIdeal.Vals
-- ==== Proof.Mix.lean ====
module

public import proofs.«01_k».proof.Pre_finite_row_maxima
public import proofs.«01_k».proof.Proof.Spec

/-!
  Where the greatest mixing weight of every head is finite, the weight of each memory is a real number not below zero; so
  it may stand on the memory, inside the sum over places, as the kernel has it, or on the reading, outside it, as the
  reference has it.
-/

@[expose] public section

set_option maxRecDepth 16384

noncomputable section

namespace Cert.Proof

open Cert.KernelIdeal Cert.KernelIdeal.Block
open Idealize.ShloMosaic Idealize.ShloMosaic.Pointwise

/-- The side conditions that the precondition's operations take. -/
theorem preFacts : Cert.Pre_finite_row_maxima.Facts where
  reducesTo_S16x4_S16_d1 := by decide
  h_S_ := by decide
  bcast_S_S16 := by decide

namespace Spec

variable (X : Vec Ideal S4x4096x2048 .f32) (A Wo : Vec Ideal S2048x2048 .f32) (bw : Vec Ideal S16x4 .f32)
  (mem : Vec Ideal S4x16x128x128 .f32) (nrm : Vec Ideal S4x16x128 .f32)

/-- The bits of the least extended real. -/
theorem bits_bot : Ideal.ofBits .f32 0xFF800000#32 = ⊥ := by simp [Ideal.ofBits, Ideal.ieee]

/-- The bits of the greatest extended real. -/
theorem bits_top : Ideal.ofBits .f32 0x7F800000#32 = ⊤ := by simp [Ideal.ofBits, Ideal.ieee]

/-- Under the precondition, the greatest mixing weight of every head is finite. -/
theorem top_finite (x0 x1 x2 x3 x4 x6 x7)
    (hp : @Cert.Pre_finite_row_maxima.fn preFacts Ideal _ x0 x1 x2 x3 x4 bw x6 x7 = fun _ => 1#1) (h : Fin 16) :
    top bw h ≠ ⊥ ∧ top bw h ≠ ⊤ := by
  have hh := congrFun hp (ix1 h)
  revert hh
  pointwise [Cert.Pre_finite_row_maxima.fn]
  intro hh
  have hlt : max (top bw h) (-(top bw h)) < ⊤ := by
    rw [bits_top] at hh
    exact of_decide_eq_true (BitVec.ofBool_eq_iff_eq.mp (hh.trans rfl))
  refine ⟨fun e => ?_, fun e => ?_⟩ <;> rw [e] at hlt <;> simp at hlt

variable (h : Fin 16) (hb : top bw h ≠ ⊥) (ht : top bw h ≠ ⊤)
include hb ht

/-- A share is a real number from zero to one. -/
theorem share_real (n : Fin 4) : ∃ w : ℝ, 0 ≤ w ∧ share bw h n = w := by
  have hle : bw (ix2 h n) ≤ top bw h :=
    (Finset.le_fold_max _).mpr (Or.inr ⟨n, Finset.mem_univ n, le_refl _⟩)
  have hs : share bw h n ≤ 1 := exp_le_one (by
    rw [bits_bot, max_eq_right bot_le]
    exact EReal.sub_nonpos.mpr hle)
  have h0 : 0 ≤ share bw h n := exp_nonneg _
  have e := EReal.coe_toReal (ne_top_of_le_ne_top (EReal.coe_ne_top 1) hs) (ne_bot_of_le_ne_bot (EReal.coe_ne_bot 0) h0)
  exact ⟨_, EReal.toReal_nonneg h0, e.symm⟩

/-- Some memory's share is one. -/
theorem share_one : ∃ n : Fin 4, share bw h n = 1 := by
  have hm : top bw h ≤ Finset.fold max (Ideal.ofBits .f32 0xFF800000#32) (fun n : Fin 4 => bw (ix2 h n)) Finset.univ := le_refl _
  obtain h' | ⟨n, -, hn⟩ := (Finset.le_fold_max _).mp hm
  · rw [bits_bot] at h'
    exact absurd (le_bot_iff.mp h') hb
  · have hle : bw (ix2 h n) ≤ top bw h := (Finset.le_fold_max _).mpr (Or.inr ⟨n, Finset.mem_univ n, le_refl _⟩)
    refine ⟨n, ?_⟩
    unfold share
    rw [bits_bot, max_eq_right bot_le, le_antisymm hle hn, EReal.sub_self ht hb]
    show ((Real.exp 0 : ℝ) : EReal) = 1
    simp

/-- The weight of a memory is a real number not below zero. -/
theorem weight_real (n : Fin 4) : ∃ w : ℝ, 0 ≤ w ∧ weight bw nrm h n = w := by
  choose s hs0 hs using share_real bw h hb ht
  obtain ⟨k, hk⟩ := share_one bw h hb ht
  have hk1 : s k = 1 := by have := (hs k).symm.trans hk; exact_mod_cast this
  have hsum : ∑ k : Fin 4, share bw h k = ((∑ k : Fin 4, s k : ℝ) : EReal) := by
    simp only [hs, Fin.sum_univ_four, EReal.coe_add]
  have hpos : 0 < ∑ k : Fin 4, s k :=
    lt_of_lt_of_le (by rw [hk1]; exact one_pos) (Finset.single_le_sum (fun i _ => hs0 i) (Finset.mem_univ k))
  have hne : ((∑ k : Fin 4, s k : ℝ) : EReal) ≠ 0 := by exact_mod_cast hpos.ne'
  have hsoft : soft bw h n = ((s n * (∑ k : Fin 4, s k)⁻¹ : ℝ) : EReal) := by
    unfold soft Ideal.div
    rw [hsum, if_neg hne, hs, EReal.coe_mul, EReal.coe_inv]
  obtain ⟨a, ha0, ha⟩ : ∃ a : ℝ, 0 ≤ a ∧ active nrm n = a := ⟨_, Nat.cast_nonneg _, rfl⟩
  refine ⟨s n * (∑ k : Fin 4, s k)⁻¹ * a, mul_nonneg (mul_nonneg (hs0 n) (inv_nonneg.mpr hpos.le)) ha0, ?_⟩
  unfold weight
  rw [hsoft, ha]
  exact (EReal.coe_mul _ _).symm

omit hb ht in
/-- A real number not below zero may be taken out of a sum. -/
theorem sum_mul_real {ι : Type} (s : Finset ι) (f : ι → EReal) (w : ℝ) (hw : 0 ≤ w) :
    ∑ i ∈ s, f i * (w : EReal) = (∑ i ∈ s, f i) * w := by
  classical
  induction s using Finset.induction_on with
  | empty => simp
  | insert a s ha ih =>
    rw [Finset.sum_insert ha, Finset.sum_insert ha, ih,
      EReal.right_distrib_of_nonneg_of_ne_top (EReal.coe_nonneg.mpr hw) (EReal.coe_ne_top w)]

/-- The weight on the memory, or on the reading. -/
theorem weighted_eq (n : Fin 4) (b : Fin 4) (s : Fin 4096) (e : Fin 128) :
    weighted X A bw mem nrm n b s h e = mixed X A bw mem nrm n b s h e := by
  obtain ⟨w, hw, hwe⟩ := weight_real bw nrm h hb ht n
  unfold weighted mixed
  have hs : ∑ d : Fin 128, phi X A b s (col h d) * (mem (ix4 n h d e) * weight bw nrm h n)
      = reading X A mem n b s h e * weight bw nrm h n := by
    rw [hwe]
    simp only [← mul_assoc]
    exact sum_mul_real _ _ _ hw
  rw [hs, div_eq (norm_pos X A nrm n b s h) (reading X A mem n b s h e), weight]
  ac_rfl

omit hb ht in
/-- With finite row maxima, the output is the same. -/
theorem out_eq (hf : ∀ h, top bw h ≠ ⊥ ∧ top bw h ≠ ⊤) (b : Fin 4) (s : Fin 4096) (j : Fin 2048) :
    out Wo (weighted X A bw mem nrm) b s j = out Wo (mixed X A bw mem nrm) b s j := by
  unfold out
  refine Finset.sum_congr rfl fun k _ => ?_
  rw [Finset.sum_congr rfl fun n _ => weighted_eq X A bw mem nrm (hd k) (hf _).1 (hf _).2 n b s (pl k)]

end Spec

end Cert.Proof
-- ==== Proof.lean ====
module

public import proofs.«01_k».proof.Defs
public import proofs.«01_k».proof.Proof.Frames
public import proofs.«01_k».proof.Proof.KernelVals
public import proofs.«01_k».proof.Proof.RefVals
public import proofs.«01_k».proof.Proof.Mix
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

/-!
  The certificate's claim: both printings of the kernel and the reference run and leave their arguments as they were, and
  over the extended reals the kernel and the reference end with the same three results.
-/

@[expose] public section

set_option maxRecDepth 65536

noncomputable section

namespace Cert.Proof

open Idealize.ShloMosaic Idealize.ShloMosaic.TcCoe Idealize.SL.Sem Idealize.ShloMosaic.Pointwise

/-- The reference runs and leaves its arguments as they were. -/
theorem frame_ReferenceIdeal : @Cert.quiescent_ReferenceIdeal Cert.ReferenceIdeal.Gen.facts := fun m ρ _ =>
  (θ_run _ _ _).mono (fun r h => ⟨fun c => (h c).2.2.2, Idealize.ShloMosaic.sem_eq_zero_of_no_sems (by decide) r.2⟩)
    (Cert.ReferenceIdeal.Value.run m ρ)

section Values

variable (m : (ℓ : Loc Cert.KernelIdeal.nD Cert.KernelIdeal.τ Cert.KernelIdeal.sig) → Buf (Elt Ideal) ℓ)
  (c : Dev Cert.KernelIdeal.nD)

open Cert.KernelIdeal.Launch Cert.ReferenceIdeal.Read

/-- The reference's output of the kernel's arguments is the kernel's. -/
theorem out_same (hp : @Cert.Pre_KernelIdeal_finite_row_maxima preFacts m) :
    (val_main_v70 (F := Ideal) (aX m c) (aQ m c) (aO m c) (aB m c) (aM m c) (aN m c) : Vec Ideal Cert.KernelIdeal.S4x4096x2048 .f32)
      = AEnd m c Cert.KernelIdeal.main_v82 := by
  have hf : ∀ h, Spec.top (aB m c) h ≠ ⊥ ∧ Spec.top (aB m c) h ≠ ⊤ := Spec.top_finite _ _ _ _ _ _ _ _ (hp c)
  funext y
  have hy : y = ix3 (⟨(y 0).val, (y 0).isLt⟩ : Fin 4) (⟨(y 1).val, (y 1).isLt⟩ : Fin 4096) (⟨(y 2).val, (y 2).isLt⟩ : Fin 2048) := by
    funext a; fin_cases a <;> rfl
  rw [hy]
  exact (Cert.ReferenceIdeal.Vals.v70_at _ _ _ _ _ _ _ _ _).trans ((Spec.out_eq _ _ _ _ _ _ hf _ _ _).symm.trans (out_at m c _ _ _).symm)

/-- The reference's new memory of the kernel's arguments is the kernel's. -/
theorem mem_same :
    (val_main_v62 (F := Ideal) (aX m c) (aK m c) (aV m c) (aM m c) (aN m c) : Vec Ideal Cert.KernelIdeal.S16x128x128 .f32)
      = AEnd m c Cert.KernelIdeal.main_v88 := by
  funext y
  have hy : y = ix3 (⟨(y 0).val, (y 0).isLt⟩ : Fin 16) (⟨(y 1).val, (y 1).isLt⟩ : Fin 128) (⟨(y 2).val, (y 2).isLt⟩ : Fin 128) := by
    funext a; fin_cases a <;> rfl
  rw [hy]
  exact (Cert.ReferenceIdeal.Vals.v62_at _ _ _ _ _ _ _ _).trans (mem0_at m c _ _ _).symm

/-- The reference's new normalizers of the kernel's arguments are the kernel's. -/
theorem norm_same :
    (val_main_v66 (F := Ideal) (aX m c) (aK m c) (aN m c) : Vec Ideal Cert.KernelIdeal.S16x128 .f32)
      = AEnd m c Cert.KernelIdeal.main_v95 := by
  funext y
  have hy : y = ix2 (⟨(y 0).val, (y 0).isLt⟩ : Fin 16) (⟨(y 1).val, (y 1).isLt⟩ : Fin 128) := by
    funext a; fin_cases a <;> rfl
  rw [hy]
  exact (Cert.ReferenceIdeal.Vals.v66_at _ _ _ _ _).trans (norm0_at m c _ _).symm

end Values

/-- Over the extended reals, with finite row maxima, the kernel and the reference end with the same three results. -/
theorem same : @Cert.algebraic_KernelIdeal_ReferenceIdeal_pre_finite_row_maxima Cert.KernelIdeal.Gen.facts
    Cert.ReferenceIdeal.Gen.facts preFacts := fun m g m' g' hp ha => by
  refine ⟨fun c => Cert.KernelIdeal.Launch.AEnd m c Cert.KernelIdeal.main_v82,
    fun c => Cert.KernelIdeal.Launch.AEnd m c Cert.KernelIdeal.main_v88,
    fun c => Cert.KernelIdeal.Launch.AEnd m c Cert.KernelIdeal.main_v95, ?_, ?_⟩
  · exact (θ_run _ _ _).mono (fun r h c =>
      ⟨h.1 c _ (Cert.KernelIdeal.Launch.mem_uc Cert.KernelIdeal.main_v82 rfl),
        h.1 c _ (Cert.KernelIdeal.Launch.mem_uc Cert.KernelIdeal.main_v88 rfl),
        h.1 c _ (Cert.KernelIdeal.Launch.mem_uc Cert.KernelIdeal.main_v95 rfl),
        Cert.KernelIdeal.Launch.args_kept m c (h.1 c)⟩) (Cert.KernelIdeal.Launch.run_main m g)
  · refine (θ_run _ _ _).mono (fun r h c => ⟨(h c).1.trans ?_, (h c).2.1.trans ?_, (h c).2.2.1.trans ?_, (h c).2.2.2⟩)
      (Cert.ReferenceIdeal.Value.run m' g')
    · obtain ⟨a0, a1, a2, a3, a4, a5, a6, a7⟩ := ha c
      rw [Cert.ReferenceIdeal.Read.val_main_v70_eq, a0, a1, a4, a5, a6, a7]
      exact out_same m c hp
    · obtain ⟨a0, a1, a2, a3, a4, a5, a6, a7⟩ := ha c
      rw [Cert.ReferenceIdeal.Read.val_main_v62_eq, a0, a2, a3, a6, a7]
      exact mem_same m c
    · obtain ⟨a0, a1, a2, a3, a4, a5, a6, a7⟩ := ha c
      rw [Cert.ReferenceIdeal.Read.val_main_v66_eq, a0, a2, a7]
      exact norm_same m c

/-- Everything the certificate claims. -/
theorem claim : Cert.Claim :=
  ⟨Cert.Kernel.Gen.facts, Cert.KernelIdeal.Gen.facts, Cert.ReferenceIdeal.Gen.facts, preFacts, frame_Kernel, frame_KernelIdeal,
    fun m ρ _ => frame_KernelIdeal m ρ trivial, frame_ReferenceIdeal, fun m ρ _ => frame_ReferenceIdeal m ρ trivial, trivial, same⟩

end Cert.Proof

end
